-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_finite_inputs_ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x512x4x64 : S_.BroadcastsInDim S2x512x4x64 (![] : Fin 0 → Fin S2x512x4x64.rank)

variable [Facts]

def fn {F : FTy → Type} [FloatOps F] (main_arg0 : FVec F S2x128x512 .bf16) (main_arg1 : FVec F S512x256 .bf16) (main_arg2 : FVec F S2x512x4x64 .bf16) (main_arg3 : FVec F S2x512x4x64 .bf16) (main_arg4 : FVec F S256x512 .bf16) : IVec S2x128x512 1 × IVec S512x256 1 × IVec S2x512x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x512x4x64 .bf16 := Host.absf main_arg2
  let main_cst_1 : FVec F S_ .bf16 := constant S_ .bf16 0x7F80#16
  let main_v7 : FVec F S2x512x4x64 .bf16 := broadcastInDim S2x512x4x64 ![] bcast_S_S2x512x4x64 main_cst_1
  let main_v8 : IVec S2x512x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x4x2x66x128 : Shape := ⟨5, ![2, 4, 2, 66, 128]⟩
abbrev S2x4 : Shape := ⟨2, ![2, 4]⟩
abbrev S_ : Shape := ⟨0, ![]⟩
abbrev S256x256 : Shape := ⟨2, ![256, 256]⟩
abbrev S128x128 : Shape := ⟨2, ![128, 128]⟩
abbrev S128x64 : Shape := ⟨2, ![128, 64]⟩
abbrev S128 : Shape := ⟨1, ![128]⟩
abbrev S1x128 : Shape := ⟨2, ![1, 128]⟩
abbrev S64x128 : Shape := ⟨2, ![64, 128]⟩
abbrev S1x64x128 : Shape := ⟨3, ![1, 64, 128]⟩
abbrev S1x1x128 : Shape := ⟨3, ![1, 1, 128]⟩
abbrev S2x64x128 : Shape := ⟨3, ![2, 64, 128]⟩
abbrev S2x1x128 : Shape := ⟨3, ![2, 1, 128]⟩
abbrev S1x1x2x64x128 : Shape := ⟨5, ![1, 1, 2, 64, 128]⟩
abbrev S1x1x2x1x128 : Shape := ⟨5, ![1, 1, 2, 1, 128]⟩
abbrev S1x1x2x2x128 : Shape := ⟨5, ![1, 1, 2, 2, 128]⟩
abbrev S1x1 : Shape := ⟨2, ![1, 1]⟩
abbrev S1x1x2x66x128 : Shape := ⟨5, ![1, 1, 2, 66, 128]⟩
abbrev S2x66x128 : Shape := ⟨3, ![2, 66, 128]⟩
abbrev S8x64x128 : Shape := ⟨3, ![8, 64, 128]⟩
abbrev S128x512 : Shape := ⟨2, ![128, 512]⟩
abbrev S64x512 : Shape := ⟨2, ![64, 512]⟩
abbrev S1x128x512 : Shape := ⟨3, ![1, 128, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .bf16⟩
  | .local _ .vmem, ⟨6, _⟩ => ⟨S2x4x2x66x128, .bf16⟩
  | .local _ .vmem, ⟨7, _⟩ => ⟨S2x4x2x66x128, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_73 : BitVec 32 := 1#32
  let v156 : BitVec 32 := Scalar.muli v3 c1_i32_73
  let v157 : BitVec 32 := Scalar.addi c0_i32_74 v156
  v157.toNat
def k0_dev4 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_115 : BitVec 32 := 1#32
  let v223 : BitVec 32 := Scalar.muli v3 c1_i32_115
  let v224 : BitVec 32 := Scalar.addi c0_i32_116 v223
  v224.toNat
def k0_dev5 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_157 : BitVec 32 := 1#32
  let v290 : BitVec 32 := Scalar.muli v3 c1_i32_157
  let v291 : BitVec 32 := Scalar.addi c0_i32_158 v290
  v291.toNat
def k0_dev6 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_199 : BitVec 32 := 1#32
  let v357 : BitVec 32 := Scalar.muli v3 c1_i32_199
  let v358 : BitVec 32 := Scalar.addi c0_i32_200 v357
  v358.toNat
def k0_dev7 (d0 : Dev nD) : Nat :=
  let c0_i32_262 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_261 : BitVec 32 := 1#32
  let v409 : BitVec 32 := Scalar.muli v4 c1_i32_261
  let v410 : BitVec 32 := Scalar.addi c0_i32_262 v409
  v410.toNat
def k0_dev8 (d0 : Dev nD) : Nat :=
  let c0_i32_324 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_323 : BitVec 32 := 1#32
  let v461 : BitVec 32 := Scalar.muli v4 c1_i32_323
  let v462 : BitVec 32 := Scalar.addi c0_i32_324 v461
  v462.toNat
def k0_dev9 (d0 : Dev nD) : Nat :=
  let c0_i32_386 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_385 : BitVec 32 := 1#32
  let v513 : BitVec 32 := Scalar.muli v4 c1_i32_385
  let v514 : BitVec 32 := Scalar.addi c0_i32_386 v513
  v514.toNat
def k0_dev10 (d0 : Dev nD) : Nat :=
  let c0_i32_448 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_447 : BitVec 32 := 1#32
  let v565 : BitVec 32 := Scalar.muli v4 c1_i32_447
  let v566 : BitVec 32 := Scalar.addi c0_i32_448 v565
  v566.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x4x128x512 : Shape := ⟨4, ![2, 4, 128, 512]⟩
abbrev S1x1x128x512 : Shape := ⟨4, ![1, 1, 128, 512]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 127
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x512x4x64, .bf16⟩
  | .hbm, ⟨3, _⟩ => ⟨S2x512x4x64, .bf16⟩
  | .hbm, ⟨4, _⟩ => ⟨S256x512, .bf16⟩
  | .hbm, ⟨5, _⟩ => ⟨S2x128x256, .f32⟩
  | .hbm, ⟨6, _⟩ => ⟨S2x128x256, .bf16⟩
  | .hbm, ⟨7, _⟩ => ⟨S2x128x4x64, .bf16⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S1x512, .i32⟩
  | .hbm, ⟨48, _⟩ => ⟨S128x512, .i32⟩
  | .hbm, ⟨49, _⟩ => ⟨S128x512, .i32⟩
  | .hbm, ⟨50, _⟩ => ⟨S128x512, .i1⟩
  | .hbm, ⟨51, _⟩ => ⟨S_, .i32⟩
  | .hbm, ⟨52, _⟩ => ⟨S1x512, .i32⟩
  | .hbm, ⟨53, _⟩ => ⟨S1x512, .i1⟩
  | .hbm, ⟨54, _⟩ => ⟨S128x512, .i1⟩
  | .hbm, ⟨55, _⟩ => ⟨S128x512, .i1⟩
  | .hbm, ⟨56, _⟩ => ⟨S128x512, .i32⟩
  | .hbm, ⟨57, _⟩ => ⟨S128x512, .i32⟩
  | .hbm, ⟨58, _⟩ => ⟨S128x512, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S128x512, .i32⟩
  | .hbm, ⟨66, _⟩ => ⟨S128x512, .i32⟩
  | .hbm, ⟨67, _⟩ => ⟨S_, .i32⟩
  | .hbm, ⟨68, _⟩ => ⟨S128x512, .i32⟩
  | .hbm, ⟨69, _⟩ => ⟨S128x512, .i1⟩
  | .hbm, ⟨70, _⟩ => ⟨S_, .i32⟩
  | .hbm, ⟨71, _⟩ => ⟨S128x512, .i32⟩
  | .hbm, ⟨72, _⟩ => ⟨S128x512, .i1⟩
  | .hbm, ⟨73, _⟩ => ⟨S_, .i32⟩
  | .hbm, ⟨74, _⟩ => ⟨S_, .i1⟩
  | .hbm, ⟨75, _⟩ => ⟨S128x512, .i1⟩
  | .hbm, ⟨76, _⟩ => ⟨S128x512, .i1⟩
  | .hbm, ⟨77, _⟩ => ⟨S128x512, .i1⟩
  | .hbm, ⟨78, _⟩ => ⟨S128x512, .i32⟩
  | .hbm, ⟨79, _⟩ => ⟨S128x512, .i32⟩
  | .hbm, ⟨80, _⟩ => ⟨S128x512, .i32⟩
  | .hbm, ⟨81, _⟩ => ⟨S_, .i32⟩
  | .hbm, ⟨82, _⟩ => ⟨S128x512, .i32⟩
  | .hbm, ⟨83, _⟩ => ⟨S128x512, .i1⟩
  | .hbm, ⟨84, _⟩ => ⟨S128x512, .i1⟩
  | .hbm, ⟨85, _⟩ => ⟨S2x4x128x512, .f32⟩
  | .hbm, ⟨86, _⟩ => ⟨S2x4x128x512, .bf16⟩
  | .hbm, ⟨87, _⟩ => ⟨S2x4x128x512, .f32⟩
  | .hbm, ⟨88, _⟩ => ⟨S_, .f32⟩
  | .hbm, ⟨89, _⟩ => ⟨S2x4x128x512, .f32⟩
  | .hbm, ⟨90, _⟩ => ⟨S2x4x128x512, .f32⟩
  | .hbm, ⟨91, _⟩ => ⟨S1x1x128x512, .i1⟩
  | .hbm, ⟨92, _⟩ => ⟨S_, .f32⟩
  | .hbm, ⟨93, _⟩ => ⟨S_, .f32⟩
  | .hbm, ⟨94, _⟩ => ⟨S2x4x128x512, .i1⟩
  | .hbm, ⟨95, _⟩ => ⟨S2x4x128x512, .f32⟩
  | .hbm, ⟨96, _⟩ => ⟨S2x4x128x512, .f32⟩
  | .hbm, ⟨97, _⟩ => ⟨S_, .f32⟩
  | .hbm, ⟨98, _⟩ => ⟨S2x4x128, .f32⟩
  | .hbm, ⟨99, _⟩ => ⟨S2x4x128x1, .f32⟩
  | .hbm, ⟨100, _⟩ => ⟨S2x4x128x512, .f32⟩
  | .hbm, ⟨101, _⟩ => ⟨S2x4x128x512, .f32⟩
  | .hbm, ⟨102, _⟩ => ⟨S2x4x128x512, .f32⟩
  | .hbm, ⟨103, _⟩ => ⟨S_, .i1⟩
  | .hbm, ⟨104, _⟩ => ⟨S128, .i1⟩
  | .hbm, ⟨105, _⟩ => ⟨S1x1x128x1, .i1⟩
  | .hbm, ⟨106, _⟩ => ⟨S_, .f32⟩
  | .hbm, ⟨107, _⟩ => ⟨S2x4x128, .f32⟩
  | .hbm, ⟨108, _⟩ => ⟨S2x4x128x1, .f32⟩
  | .hbm, ⟨109, _⟩ => ⟨S_, .f32⟩
  | .hbm, ⟨110, _⟩ => ⟨S_, .f32⟩
  | .hbm, ⟨111, _⟩ => ⟨S2x4x128x1, .i1⟩
  | .hbm, ⟨112, _⟩ => ⟨S2x4x128x1, .f32⟩
  | .hbm, ⟨113, _⟩ => ⟨S2x4x128x1, .f32⟩
  | .hbm, ⟨114, _⟩ => ⟨S2x4x128x512, .f32⟩
  | .hbm, ⟨115, _⟩ => ⟨S2x4x128x512, .f32⟩
  | .hbm, ⟨116, _⟩ => ⟨S1x1x128x1, .i1⟩
  | .hbm, ⟨117, _⟩ => ⟨S_, .f32⟩
  | .hbm, ⟨118, _⟩ => ⟨S_, .f32⟩
  | .hbm, ⟨119, _⟩ => ⟨S2x4x128x512, .i1⟩
  | .hbm, ⟨120, _⟩ => ⟨S2x4x128x512, .f32⟩
  | .hbm, ⟨121, _⟩ => ⟨S2x4x128x512, .f32⟩
  | .hbm, ⟨122, _⟩ => ⟨S2x4x64x128, .f32⟩
  | .hbm, ⟨123, _⟩ => ⟨S2x128x4x64, .f32⟩
  | .hbm, ⟨124, _⟩ => ⟨S2x128x256, .f32⟩
  | .hbm, ⟨125, _⟩ => ⟨S2x128x512, .f32⟩
  | .hbm, ⟨126, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩

abbrev nD : Nat := 1
abbrev τ : Topo := Topo.v7x

variable {F : FTy → Type} [FloatOps F]
-- ==== Proof.Values.lean ====
/- The values the kernel's run passes through, as functions of one device's operand blocks: the softmax state of a
   block of queries, the packet a state is sent as, the combination of a state with a received packet, and the
   projected output. Each is stated once, for every piece and every step; the printed program's chains of operations
   are these same expressions. -/
module

public import proofs.«01_k».proof.Proof.Gen.KernelIdeal.Skeleton

@[expose] public section

set_option backward.proofsInPublic true

noncomputable section

namespace Cert.RunProof

open Cert.KernelIdeal Cert.KernelIdeal.Gen
open Idealize.ShloMosaic TcCoe Idealize.SL.Sem

variable {F : FTy → Type} [FloatOps F]

/-! ## The flash-softmax state of the queries against one device's keys -/

/-- The batch of piece `p`: pieces 0 and 1 are batch 0, pieces 2 and 3 batch 1. -/
def pB (p : Fin 4) : Fin 2 := ⟨p.val / 2, by omega⟩

/-- The head of entry `g` of piece `p`: an even piece is heads 0 and 1, an odd one heads 2 and 3. -/
def pH (p : Fin 4) (g : Fin 2) : Fin 4 := ⟨2 * (p.val % 2) + g.val, by omega⟩

/-- Where the rows of batch `b` and the columns of head `h` start in the 256 × 256 matrix of all batches and heads. -/
abbrev blkOff (b : Fin 2) (h : Fin 4) : Fin S256x256.rank → ℕ := ![128 * b.val, 64 * h.val]

/-- The block of batch `b` and head `h` lies inside the matrix. -/
theorem blk_slices (b : Fin 2) (h : Fin 4) : S256x256.Slices (blkOff b h) S128x64 := by
  revert b h; decide

/-- One (batch, head) block: the masked scaled scores, keys down the rows and queries along the columns. -/
def score (q : FVec F S256x256 .f32) (k : FVec F S256x256 .bf16) (w : IVec S128x128 1) (b : Fin 2) (h : Fin 4) :
    FVec F S128x128 .f32 :=
  select w (mulf (matmul dot_S128x64_S128x64_S128x128_1_1_0_0_n_n none (extractStridedSlice S128x64 (blkOff b h) k (blk_slices b h))
      (truncf .bf16 (extractStridedSlice S128x64 (blkOff b h) q (blk_slices b h)) bitsLt_bf16_f32) (constant S128x128 .f32 0x00000000#32))
      (broadcast S128x128 (Scalar.ofBits .f32 0x3E000000#32)))
    (broadcast S128x128 (Scalar.ofBits .f32 0xCE6E6B28#32))

/-- The largest score of each query, over the keys. -/
def smax (s : FVec F S128x128 .f32) : FVec F S1x128 .f32 :=
  shapeCast S1x128 (multiReduction .maximumf [0] S128 s 0xFF800000#32 reduces_S128x128_S128 (.inl rfl) rfl) shapeCasts_S128_S1x128

/-- The weights: the exponential of each score less its query's largest. -/
def sexp (s : FVec F S128x128 .f32) : FVec F S128x128 .f32 :=
  exp (subf s (broadcastTo S128x128 (smax s) broadcasts_S1x128_S128x128))

/-- The sum of each query's weights. -/
def ssum (s : FVec F S128x128 .f32) : FVec F S1x128 .f32 :=
  shapeCast S1x128 (multiReduction .add [0] S128 (sexp s) 0x00000000#32 reduces_S128x128_S128 (.inl rfl) rfl) shapeCasts_S128_S1x128

/-- The weighted sum of the value rows, features down the rows and queries along the columns. -/
def sctx (v : FVec F S256x256 .bf16) (s : FVec F S128x128 .f32) (b : Fin 2) (h : Fin 4) : FVec F S64x128 .f32 :=
  matmul dot_S128x64_S128x128_S64x128_0_0_1_1_n_n none (extractStridedSlice S128x64 (blkOff b h) v (blk_slices b h))
    (truncf .bf16 (sexp s) bitsLt_bf16_f32) (constant S64x128 .f32 0x00000000#32)

/-- The state of a piece (two heads of one batch): the weighted sums, the largest scores and the sums of the weights. -/
structure St (F : FTy → Type) where
  ctx : FVec F S2x64x128 .f32
  m : FVec F S2x1x128 .f32
  l : FVec F S2x1x128 .f32

/-- A state as it is sent: rounded to bf16, in the shape of the message slot's rows. -/
structure Pk (F : FTy → Type) where
  ctx : FVec F S1x1x2x64x128 .bf16
  m : FVec F S1x1x2x1x128 .bf16
  l : FVec F S1x1x2x1x128 .bf16

/-- The scores of entry `g` of piece `p`. -/
abbrev pscore (q : FVec F S256x256 .f32) (k : FVec F S256x256 .bf16) (w : IVec S128x128 1) (p : Fin 4) (g : Fin 2) :
    FVec F S128x128 .f32 := score q k w (pB p) (pH p g)

/-- The state of piece `p` against one device's own keys. -/
def localSt (q : FVec F S256x256 .f32) (k v : FVec F S256x256 .bf16) (w : IVec S128x128 1) (p : Fin 4) : St F where
  ctx := concatenate S2x64x128 0
    [⟨S1x64x128, shapeCast S1x64x128 (sctx v (pscore q k w p 0) (pB p) (pH p 0)) shapeCasts_S64x128_S1x64x128⟩,
     ⟨S1x64x128, shapeCast S1x64x128 (sctx v (pscore q k w p 1) (pB p) (pH p 1)) shapeCasts_S64x128_S1x64x128⟩]
    concatenates_S1x64x128_S1x64x128_S2x64x128_d0
  m := concatenate S2x1x128 0
    [⟨S1x1x128, shapeCast S1x1x128 (smax (pscore q k w p 0)) shapeCasts_S1x128_S1x1x128⟩,
     ⟨S1x1x128, shapeCast S1x1x128 (smax (pscore q k w p 1)) shapeCasts_S1x128_S1x1x128⟩]
    concatenates_S1x1x128_S1x1x128_S2x1x128_d0
  l := concatenate S2x1x128 0
    [⟨S1x1x128, shapeCast S1x1x128 (ssum (pscore q k w p 0)) shapeCasts_S1x128_S1x1x128⟩,
     ⟨S1x1x128, shapeCast S1x1x128 (ssum (pscore q k w p 1)) shapeCasts_S1x128_S1x1x128⟩]
    concatenates_S1x1x128_S1x1x128_S2x1x128_d0

/-- A state rounded for sending. -/
def pack (s : St F) : Pk F where
  ctx := shapeCast S1x1x2x64x128 (truncf .bf16 s.ctx bitsLt_bf16_f32) shapeCasts_S2x64x128_S1x1x2x64x128
  m := shapeCast S1x1x2x1x128 (truncf .bf16 s.m bitsLt_bf16_f32) shapeCasts_S2x1x128_S1x1x2x1x128
  l := shapeCast S1x1x2x1x128 (truncf .bf16 s.l bitsLt_bf16_f32) shapeCasts_S2x1x128_S1x1x2x1x128

/-- A received packet widened back to a state. -/
def unpack (r : Pk F) : St F where
  ctx := extf .f32 (shapeCast S2x64x128 r.ctx shapeCasts_S1x1x2x64x128_S2x64x128) bitsLt_bf16_f32
  m := extf .f32 (shapeCast S2x1x128 r.m shapeCasts_S1x1x2x1x128_S2x1x128) bitsLt_bf16_f32
  l := extf .f32 (shapeCast S2x1x128 r.l shapeCasts_S1x1x2x1x128_S2x1x128) bitsLt_bf16_f32

/-- The combination of two states over disjoint keys: both rescaled to the larger maximum, and added. -/
def combine (a b : St F) : St F where
  ctx := addf
    (mulf (broadcastTo S2x64x128 (exp (subf a.m (maximumf a.m b.m))) broadcasts_S2x1x128_S2x64x128) a.ctx)
    (mulf (broadcastTo S2x64x128 (exp (subf b.m (maximumf a.m b.m))) broadcasts_S2x1x128_S2x64x128) b.ctx)
  m := maximumf a.m b.m
  l := addf (mulf (exp (subf a.m (maximumf a.m b.m))) a.l) (mulf (exp (subf b.m (maximumf a.m b.m))) b.l)

/-- The attention output of a finished state: the weighted sums over the sum of the weights. -/
def finish (s : St F) : FVec F S2x64x128 .bf16 :=
  truncf .bf16 (divf s.ctx (broadcastTo S2x64x128 s.l broadcasts_S2x1x128_S2x64x128)) bitsLt_bf16_f32

/-! ## The output projection -/

/-- The attention outputs of all eight (batch, head) blocks. -/
def allHeads (a : Fin 4 → FVec F S2x64x128 .bf16) : FVec F S8x64x128 .bf16 :=
  concatenate S8x64x128 0 [⟨S2x64x128, a 0⟩, ⟨S2x64x128, a 1⟩, ⟨S2x64x128, a 2⟩, ⟨S2x64x128, a 3⟩]
    concatenates_S2x64x128_S2x64x128_S2x64x128_S2x64x128_S8x64x128_d0

/-- Block `4 b + h` of the attention outputs exists. -/
theorem head_slices (b : Fin 2) (h : Fin 4) : S8x64x128.Slices ![4 * b.val + h.val, 0, 0] S1x64x128 := by
  revert b h; decide

/-- The 64 rows of head `h` exist in the projection matrix. -/
theorem wo_slices (h : Fin 4) : S256x512.Slices ![64 * h.val, 0] S64x512 := by
  revert h; decide

/-- Head `h`'s share of batch `b`'s output. -/
def headProj (x : FVec F S8x64x128 .bf16) (wo : FVec F S256x512 .bf16) (b : Fin 2) (h : Fin 4) : FVec F S128x512 .f32 :=
  matmul dot_S64x128_S64x512_S128x512_0_0_1_1_n_n none
    (shapeCast S64x128 (extractStridedSlice S1x64x128 ![4 * b.val + h.val, 0, 0] x (head_slices b h)) shapeCasts_S1x64x128_S64x128)
    (extractStridedSlice S64x512 ![64 * h.val, 0] wo (wo_slices h)) (constant S128x512 .f32 0x00000000#32)

/-- Batch `b`'s output: the heads' shares added, rounded. -/
def proj (x : FVec F S8x64x128 .bf16) (wo : FVec F S256x512 .bf16) (b : Fin 2) : FVec F S128x512 .bf16 :=
  truncf .bf16 (addf (addf (addf (addf (broadcast S128x512 (Scalar.ofBits .f32 0x00000000#32)) (headProj x wo b 0)) (headProj x wo b 1))
    (headProj x wo b 2)) (headProj x wo b 3)) bitsLt_bf16_f32

/-! ## What device `c` computes from its blocks -/

/-- The device's number in its axis, as the program computes it. -/
def devWord (c : Dev nD) : BitVec 32 := Scalar.remsi (Scalar.divsi (Dev.word c) 1#32) 4#32

/-- Which (key, query) pairs attend: the block mask at device `c`'s keys. -/
def msk (c : Dev nD) : IVec S128x128 1 :=
  k0_pay8 (k0_pay6 (Scalar.muli (devWord c) 2#32) (iota .tc S128x128 32 [0] iota_S128x128_d0_w32) 64#32 k0_pay4 k0_pay5) k0_pay7

/-- Piece `p`'s state at device `c`, over its own keys. -/
def st0 (x : Vec F S2x128x512 .bf16) (wq : Vec F S512x256 .bf16) (k v : Vec F S2x128x4x64 .bf16) (c : Dev nD) (p : Fin 4) : St F :=
  localSt (k0_pay1 x wq) (k0_pay2 k) (k0_pay3 v) (msk c) p

end Cert.RunProof
-- ==== Proof.Slots.lean ====
/- The message slots: both message buffers hold one slot per step `s` and piece `p`, with 64 rows of weighted sums, a row
   of largest scores and a row of weight sums for each of two heads. Owning a slot, storing a packet into one, and
   loading a packet from one, each stated once for every buffer, step and piece. -/
module

public import proofs.«01_k».proof.Proof.Values
public import Idealize.ShloMosaic.Lib.Pipeline.Launch
public import Idealize.ShloMosaic.Lib.Pipeline.Kit
public import Idealize.ShloMosaic.Lib.Tactic
public import Idealize.ShloMosaic.Lib.ValueIdx

@[expose] public section

set_option backward.proofsInPublic true

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The algebra of the proof: the pipeline's copy of the rounds, and the exchange's with duties named by step -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The slots' elements -/

/-- A message buffer. -/
abbrev MsgRef := Memref sig .tc .vmem S2x4x2x66x128 .bf16

/-- Where slot (s, p) starts, row `r` of it. -/
abbrev slotOff (s : Fin 2) (p : Fin 4) (r : ℕ) : Fin S2x4x2x66x128.rank → ℕ := ![s.val, p.val, 0, r, 0]

/-- The elements of slot (s, p). -/
def slotSet (s : Fin 2) (p : Fin 4) : Finset S2x4x2x66x128.Idx :=
  Finset.univ.filter fun j => (j 0).val = s.val ∧ (j 1).val = p.val

theorem mem_slotSet {s : Fin 2} {p : Fin 4} {j : S2x4x2x66x128.Idx} : j ∈ slotSet s p ↔ (j 0 : Fin 2) = s ∧ (j 1 : Fin 4) = p := by
  unfold slotSet; rw [Finset.mem_filter]
  exact ⟨fun h => ⟨Fin.ext h.2.1, Fin.ext h.2.2⟩, fun h => ⟨Finset.mem_univ _, congrArg Fin.val h.1, congrArg Fin.val h.2⟩⟩

/-- A unit-stride rectangle that starts in slot (s, p) and spans one step and one piece lies inside the slot. -/
theorem rect_subset_slot {s : Fin 2} {p : Fin 4} {r : ℕ} {size : Fin 5 → ℕ} {o : Fin S2x4x2x66x128.rank → ℕ} (ho : o = slotOff s p r)
    (h0 : size 0 = 1) (h1 : size 1 = 1) (inb : ∀ a, o a + size a ≤ S2x4x2x66x128.size a) :
    (Rect.unit (s := S2x4x2x66x128) o size inb).set ⊆ slotSet s p := by
  subst ho
  intro j hj
  have h := Rect.mem_set_unit.mp hj
  have a0 := h 0; have a1 := h 1
  rw [h0] at a0; rw [h1] at a1
  simp only [slotOff, Matrix.cons_val_zero, Matrix.cons_val_one] at a0 a1
  exact mem_slotSet.mpr ⟨Fin.ext (by omega), Fin.ext (by omega)⟩

/-- The whole slot's rectangle has exactly the slot's elements. -/
theorem slotRect_set {s : Fin 2} {p : Fin 4} {o : Fin S2x4x2x66x128.rank → ℕ} (ho : o = slotOff s p 0)
    (inb : ∀ a, o a + S1x1x2x66x128.size a ≤ S2x4x2x66x128.size a) :
    (Rect.unit (s := S2x4x2x66x128) o S1x1x2x66x128.size inb).set = slotSet s p := by
  refine Finset.Subset.antisymm (rect_subset_slot ho rfl rfl inb) fun j hj => ?_
  obtain ⟨h0, h1⟩ := mem_slotSet.mp hj
  subst ho
  refine Rect.mem_set_unit.mpr fun a => ?_
  have hlt := (j a).isLt
  fin_cases a
  · exact ⟨le_of_eq (congrArg Fin.val h0).symm, Nat.lt_succ_of_le (le_of_eq (congrArg Fin.val h0))⟩
  · exact ⟨le_of_eq (congrArg Fin.val h1).symm, Nat.lt_succ_of_le (le_of_eq (congrArg Fin.val h1))⟩
  · exact ⟨Nat.zero_le _, by simpa using hlt⟩
  · exact ⟨Nat.zero_le _, by simpa using hlt⟩
  · exact ⟨Nat.zero_le _, by simpa using hlt⟩

theorem slot_disjoint {s s' : Fin 2} {p p' : Fin 4} (h : (s, p) ≠ (s', p')) : Disjoint (slotSet s p) (slotSet s' p') := by
  refine Finset.disjoint_left.mpr fun j hj hj' => h ?_
  obtain ⟨h0, h1⟩ := mem_slotSet.mp hj
  obtain ⟨h0', h1'⟩ := mem_slotSet.mp hj'
  exact Prod.ext (h0.symm.trans h0') (h1.symm.trans h1')

/-! ## A packet as a slot's contents -/

/-- The element of packet `P` in head `g`, row `t`, query `x` of a slot: rows 0 to 63 the weighted sums, row 64 the largest
    scores, row 65 the weight sums. -/
def pktAt (P : Pk F) (g : Fin 2) (t : Fin 66) (x : Fin 128) : Elt F .bf16 :=
  if h : t.val < 64 then P.ctx (ix5 0 0 g ⟨t.val, h⟩ x) else if t.val = 64 then P.m (ix5 0 0 g 0 x) else P.l (ix5 0 0 g 0 x)

/-- The same at a slot's element. -/
def pkt (P : Pk F) (j : S2x4x2x66x128.Idx) : Elt F .bf16 := pktAt P (j 2) (j 3) (j 4)

section Contents
variable (M : MsgRef) {s : Fin 2} {p : Fin 4}

omit [FloatOps F] in
/-- Reading a rectangle of one step and one piece reads the buffer at the shifted coordinates. -/
theorem read_rect {n r : ℕ} {o : Fin S2x4x2x66x128.rank → ℕ} (ho : o = slotOff s p r)
    (inb : ∀ a, o a + (⟨5, ![1, 1, 2, n, 128]⟩ : Shape).size a ≤ S2x4x2x66x128.size a)
    (f : M.view.ty.Contents (Elt F)) (g : Fin 2) (t : Fin n) (x : Fin 128) (ht : r + t.val < 66) :
    M.view.readAt (Elt F) (Rect.unit (s := S2x4x2x66x128) o (⟨5, ![1, 1, 2, n, 128]⟩ : Shape).size inb).toLoadRect f (ix5 0 0 g t x)
      = M.view.read (Elt F) f (ix5 s p g ⟨r + t.val, ht⟩ x) := by
  subst ho
  rw [View.readAt_apply]
  congr 1
  funext a
  refine Fin.ext ?_
  show slotOff s p r a + 1 * ((ix5 (0 : Fin 1) (0 : Fin 1) g t x : (⟨5, ![1, 1, 2, n, 128]⟩ : Shape).Idx) a).val = _
  fin_cases a <;> simp [slotOff]

omit [FloatOps F] in
/-- After a store through a rectangle of rows `r` to `r + n - 1` of a slot, those rows of the slot read the stored value and
    the others what they did. -/
theorem read_write_rect {n r : ℕ} {o : Fin S2x4x2x66x128.rank → ℕ} (ho : o = slotOff s p r)
    (inb : ∀ a, o a + (⟨5, ![1, 1, 2, n, 128]⟩ : Shape).size a ≤ S2x4x2x66x128.size a)
    (f : M.view.ty.Contents (Elt F)) (w : (⟨5, ![1, 1, 2, n, 128]⟩ : Shape).Idx → Elt F .bf16) (g : Fin 2) (t : Fin 66) (x : Fin 128) :
    M.view.read (Elt F) ((M.view.slice (Rect.unit (s := S2x4x2x66x128) o (⟨5, ![1, 1, 2, n, 128]⟩ : Shape).size inb)).write (Elt F) f w Finset.univ)
        (ix5 s p g t x)
      = if h : r ≤ t.val ∧ t.val - r < n then w (ix5 0 0 g ⟨t.val - r, h.2⟩ x) else M.view.read (Elt F) f (ix5 s p g t x) := by
  subst ho
  by_cases h : r ≤ t.val ∧ t.val - r < n
  · rw [dif_pos h, ← View.read_slice_write_emb (v := M.view) (Rect.unit (s := S2x4x2x66x128) (slotOff s p r) (⟨5, ![1, 1, 2, n, 128]⟩ : Shape).size inb) f w
      (Finset.mem_univ (ix5 0 0 g ⟨t.val - r, h.2⟩ x))]
    congr 1
    funext a
    refine Fin.ext ?_
    show _ = slotOff s p r a + 1 * ((ix5 (0 : Fin 1) (0 : Fin 1) g (⟨t.val - r, h.2⟩ : Fin n) x : (⟨5, ![1, 1, 2, n, 128]⟩ : Shape).Idx) a).val
    have hr := h.1
    fin_cases a
    · show s.val = s.val + 1 * 0; omega
    · show p.val = p.val + 1 * 0; omega
    · show g.val = 0 + 1 * g.val; omega
    · show t.val = r + 1 * (t.val - r); omega
    · show x.val = 0 + 1 * x.val; omega
  · rw [dif_neg h]
    refine View.read_slice_write_of_not_mem _ _ _ _ fun hm => h ?_
    obtain ⟨y, -, hy⟩ := Finset.mem_map.mp hm
    have h3 : r + 1 * (y 3).val = t.val := congrArg (fun z : S2x4x2x66x128.Idx => (z 3).val) hy
    have hn : (y 3).val < n := (y 3).isLt
    omega

omit [FloatOps F] in
/-- A one-row update of a block of two rows: the chosen row is the update, the other is kept. -/
theorem updateSlice_row (old : S1x1x2x2x128.Idx → Elt F .bf16) (w : S1x1x2x1x128.Idx → Elt F .bf16) (u : ℕ)
    (h : S1x1x2x2x128.Slices ![0, 0, 0, u, 0] S1x1x2x1x128) (g : Fin 2) (t : Fin 2) (x : Fin 128) :
    updateSlice old w ![0, 0, 0, u, 0] h (ix5 0 0 g t x) = if t.val = u then w (ix5 0 0 g 0 x) else old (ix5 0 0 g t x) := by
  unfold updateSlice
  by_cases ht : t.val = u
  · have hin : ∀ a : Fin S1x1x2x2x128.rank, (![0, 0, 0, u, 0] : Fin 5 → ℕ) a ≤ ((ix5 (0 : Fin 1) (0 : Fin 1) g t x : S1x1x2x2x128.Idx) a).val
        ∧ ((ix5 (0 : Fin 1) (0 : Fin 1) g t x : S1x1x2x2x128.Idx) a).val < (![0, 0, 0, u, 0] : Fin 5 → ℕ) a + S1x1x2x1x128.size (a.cast h.1.symm) := by
      intro a
      have hg := g.isLt; have hx := x.isLt
      fin_cases a
      · exact ⟨Nat.zero_le _, Nat.zero_lt_one⟩
      · exact ⟨Nat.zero_le _, Nat.zero_lt_one⟩
      · exact ⟨Nat.zero_le _, by show g.val < 0 + 2; omega⟩
      · exact ⟨le_of_eq ht.symm, by show t.val < u + 1; omega⟩
      · exact ⟨Nat.zero_le _, by show x.val < 0 + 128; omega⟩
    rw [if_pos ht, dif_pos hin]
    congr 1
    funext a
    refine Fin.ext ?_
    fin_cases a
    · rfl
    · rfl
    · rfl
    · show t.val - u = 0; omega
    · rfl
  · rw [if_neg ht, dif_neg]
    intro hin
    have h3 : u ≤ t.val ∧ t.val < u + 1 := hin 3
    omega

omit [FloatOps F] in
/-- The contents after the three stores of a packet's rows into a slot are the packet, at every element of the slot. -/
theorem store_contents (P : Pk F) {o₁ o₂ : Fin S2x4x2x66x128.rank → ℕ} (h₁ : o₁ = slotOff s p 0) (h₂ : o₂ = slotOff s p 64)
    {i₁ : ∀ a, o₁ a + S1x1x2x64x128.size a ≤ S2x4x2x66x128.size a} {i₄ : ∀ a, o₂ a + S1x1x2x2x128.size a ≤ S2x4x2x66x128.size a}
    {u₂ u₃} (f : M.view.ty.Contents (Elt F)) (f₁ f₂ : M.view.ty.Contents (Elt F))
    (e₁ : f₁ = (M.view.slice (Rect.unit (s := S2x4x2x66x128) o₁ S1x1x2x64x128.size i₁)).write (Elt F) f P.ctx Finset.univ)
    (e₂ : f₂ = (M.view.slice (Rect.unit (s := S2x4x2x66x128) o₂ S1x1x2x2x128.size i₄)).write (Elt F) f₁
      (updateSlice (s := S1x1x2x2x128) (M.view.readAt (Elt F) (Rect.unit (s := S2x4x2x66x128) o₂ S1x1x2x2x128.size i₄).toLoadRect f₁) P.m ![0, 0, 0, 0, 0] u₂) Finset.univ)
    (j : S2x4x2x66x128.Idx) (hj : j ∈ slotSet s p) :
    M.view.read (Elt F) ((M.view.slice (Rect.unit (s := S2x4x2x66x128) o₂ S1x1x2x2x128.size i₄)).write (Elt F) f₂
      (updateSlice (s := S1x1x2x2x128) (M.view.readAt (Elt F) (Rect.unit (s := S2x4x2x66x128) o₂ S1x1x2x2x128.size i₄).toLoadRect f₂) P.l ![0, 0, 0, 1, 0] u₃) Finset.univ) j
      = pkt P j := by
  obtain ⟨s', p', g, t, x, rfl⟩ : ∃ (a : Fin 2) (b : Fin 4) (g : Fin 2) (t : Fin 66) (x : Fin 128), j = ix5 a b g t x := ⟨_, _, _, _, _, eq_ix5 j⟩
  obtain ⟨rfl, rfl⟩ : s' = s ∧ p' = p := mem_slotSet.mp hj
  show _ = pktAt P g t x
  unfold pktAt
  have r₂ := read_write_rect M h₂ i₄ f₁
    (updateSlice (s := S1x1x2x2x128) (M.view.readAt (Elt F) (Rect.unit (s := S2x4x2x66x128) o₂ S1x1x2x2x128.size i₄).toLoadRect f₁) P.m ![0, 0, 0, 0, 0] u₂)
  rw [← e₂] at r₂
  refine (read_write_rect M h₂ i₄ _ _ g t x).trans ?_
  have htl := t.isLt
  by_cases hlt : t.val < 64
  · rw [dif_neg (by omega), r₂ g t x, dif_neg (by omega), dif_pos hlt, e₁]
    refine (read_write_rect M h₁ i₁ _ _ g t x).trans ?_
    rw [dif_pos ⟨Nat.zero_le _, hlt⟩]
    rfl
  · rw [dif_pos ⟨by omega, by omega⟩, updateSlice_row, dif_neg hlt]
    by_cases h65 : t.val = 65
    · rw [if_pos (by show t.val - 64 = 1; omega), if_neg (by omega)]
    · have ht : t = ⟨64, by decide⟩ := Fin.ext (by show t.val = 64; omega)
      subst ht
      rw [if_neg (by show ¬ 64 - 64 = 1; omega), if_pos rfl]
      refine (read_rect M h₂ i₄ f₂ g ⟨64 - 64, by omega⟩ x (by show 64 + (64 - 64) < 66; omega)).trans ?_
      refine (r₂ g ⟨64, by decide⟩ x).trans ?_
      rw [dif_pos ⟨by show 64 ≤ 64; omega, by show 64 - 64 < 2; omega⟩, updateSlice_row, if_pos (by show 64 - 64 = 0; omega)]

end Contents

/-! ## Owning a slot -/

/-- Slot (s, p) of buffer `M` at device `c`, whatever it holds. -/
def slotAny (M : MsgRef) (c : Dev nD) (s : Fin 2) (p : Fin 4) : sProp 𝕄 :=
  iprop(∃ f : Buf (Elt F) (M.view.loc (c : Thread nD τ)), M.view.loc (c : Thread nD τ) ↦[M.view.setOn (slotSet s p)]{fullShare} f)

/-- Slot (s, p) of buffer `M` at device `c` holding packet `P`. -/
def slotPts (M : MsgRef) (c : Dev nD) (s : Fin 2) (p : Fin 4) (P : Pk F) : sProp 𝕄 :=
  iprop(∃ f : Buf (Elt F) (M.view.loc (c : Thread nD τ)), ⌜∀ j ∈ slotSet s p, M.view.read (Elt F) f j = pkt P j⌝
    ∗ M.view.loc (c : Thread nD τ) ↦[M.view.setOn (slotSet s p)]{fullShare} f)

omit [FloatOps F] in
instance slotAny_storable (M : MsgRef) (c : Dev nD) (s : Fin 2) (p : Fin 4) : BI.Storable (upEmb : UEmb _ 𝕄) (slotAny (F := F) M c s p) := by
  unfold slotAny; infer_instance
omit [FloatOps F] in
instance slotPts_storable (M : MsgRef) (c : Dev nD) (s : Fin 2) (p : Fin 4) (P : Pk F) : BI.Storable (upEmb : UEmb _ 𝕄) (slotPts M c s p P) := by
  unfold slotPts; infer_instance

omit [FloatOps F] in
theorem slotPts_any (M : MsgRef) (c : Dev nD) (s : Fin 2) (p : Fin 4) (P : Pk F) : slotPts M c s p P ⊢ slotAny (F := F) M c s p := by
  unfold slotPts slotAny
  iintro ⟨%f, -, H⟩
  iexists f; iexact H

/-- The weakest precondition of a device's program. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

section Rules
variable {M : MsgRef} {c : Dev nD} {s : Fin 2} {p : Fin 4}
variable {α : Type} {Q : α → sProp (MT nD τ sig Unit (Elt F) ℕ UU ℕ)}

/-- The buffer elements of a rectangle of one step and one piece are among the slot's. -/
theorem rect_sub {r : ℕ} {size : Fin 5 → ℕ} {o : Fin S2x4x2x66x128.rank → ℕ} (ho : o = slotOff s p r)
    (h0 : size 0 = 1) (h1 : size 1 = 1) (inb : ∀ a, o a + size a ≤ S2x4x2x66x128.size a) :
    M.view.setOn (Rect.unit (s := S2x4x2x66x128) o size inb).set ⊆ M.view.setOn (slotSet s p) :=
  Finset.map_subset_map.mpr (rect_subset_slot ho h0 h1 inb)

/-- Storing a packet: the six loads and three stores that put a state's rounded rows into a slot leave the slot holding
    that packet. -/
theorem wp_store_packet (P : Pk F) {o₁ o₂ o₃ : Fin S2x4x2x66x128.rank → ℕ} (h₁ : o₁ = slotOff s p 0) (h₂ : o₂ = slotOff s p 64)
    (h₃ : o₃ = slotOff s p 65) {i₁ i₂ i₃ i₄}
    {w₁ : S1x1x2x64x128.Idx → Elt F .bf16} {w₂ w₃ : S1x1x2x1x128.Idx → Elt F .bf16} (e₁ : w₁ = P.ctx) (e₂ : w₂ = P.m) (e₃ : w₃ = P.l)
    {l₁ l₂ l₃ l₄ t₁ t₄ x₁ x₄ u₂ u₃ l₅ t₅ x₅} {k : Prog (TpuEff nD τ sig (Elt F) Λ₀ .tc) α} :
    slotAny (F := F) M c s p ⊢ iprop((slotPts M c s p P -∗ WP c k Q) -∗
      WP c (.op (.load M (Rect.unit (s := S2x4x2x66x128) o₁ S1x1x2x64x128.size i₁).toLoadRect l₁) fun _ =>
        .op (.store M (Rect.unit (s := S2x4x2x66x128) o₁ S1x1x2x64x128.size i₁) w₁ Finset.univ t₁ x₁) fun _ =>
        .op (.load M (Rect.unit (s := S2x4x2x66x128) o₂ S1x1x2x1x128.size i₂).toLoadRect l₂) fun _ =>
        .op (.load M (Rect.unit (s := S2x4x2x66x128) o₂ S1x1x2x2x128.size i₄).toLoadRect l₄) fun old =>
        .op (.store M (Rect.unit (s := S2x4x2x66x128) o₂ S1x1x2x2x128.size i₄) (updateSlice old w₂ ![0, 0, 0, 0, 0] u₂) Finset.univ t₄ x₄) fun _ =>
        .op (.load M (Rect.unit (s := S2x4x2x66x128) o₃ S1x1x2x1x128.size i₃).toLoadRect l₃) fun _ =>
        .op (.load M (Rect.unit (s := S2x4x2x66x128) o₂ S1x1x2x2x128.size i₄).toLoadRect l₅) fun old =>
        .op (.store M (Rect.unit (s := S2x4x2x66x128) o₂ S1x1x2x2x128.size i₄) (updateSlice old w₃ ![0, 0, 0, 1, 0] u₃) Finset.univ t₅ x₅) fun _ => k) Q) := by
  have sub' {size : Fin 5 → ℕ} {r : ℕ} {o} (ho : o = slotOff s p r) (z0 : size 0 = 1) (z1 : size 1 = 1) (inb) :
      (M.access (Rect.unit (s := S2x4x2x66x128) o size inb)).setOn Finset.univ ⊆ M.view.setOn (slotSet s p) := by
    rw [View.setOn_univ, View.set_slice]; exact rect_sub ho z0 z1 inb
  unfold slotAny
  iintro ⟨%f, H⟩ Hk
  iapply (wp_load 𝒱₀ (c : Thread nD τ) none Set.univ (m := M) (rect_sub (M := M) h₁ rfl rfl i₁)) $$ H; iintro H
  iapply (wp_store 𝒱₀ (c : Thread nD τ) none Set.univ (m := M) (Mk := Finset.univ) (sub' h₁ rfl rfl i₁)) $$ H; iintro H
  iapply (wp_load 𝒱₀ (c : Thread nD τ) none Set.univ (m := M) (rect_sub (M := M) h₂ rfl rfl i₂)) $$ H; iintro H
  iapply (wp_load 𝒱₀ (c : Thread nD τ) none Set.univ (m := M) (rect_sub (M := M) h₂ rfl rfl i₄)) $$ H; iintro H
  iapply (wp_store 𝒱₀ (c : Thread nD τ) none Set.univ (m := M) (Mk := Finset.univ) (sub' h₂ rfl rfl i₄)) $$ H; iintro H
  iapply (wp_load 𝒱₀ (c : Thread nD τ) none Set.univ (m := M) (rect_sub (M := M) h₃ rfl rfl i₃)) $$ H; iintro H
  iapply (wp_load 𝒱₀ (c : Thread nD τ) none Set.univ (m := M) (rect_sub (M := M) h₂ rfl rfl i₄)) $$ H; iintro H
  iapply (wp_store 𝒱₀ (c : Thread nD τ) none Set.univ (m := M) (Mk := Finset.univ) (sub' h₂ rfl rfl i₄)) $$ H; iintro H
  iapply Hk
  unfold slotPts
  subst e₁ e₂ e₃
  iexists _
  isplitr [H]
  · ipureintro
    exact fun j hj => store_contents M P h₁ h₂ (i₁ := i₁) (i₄ := i₄) (u₂ := u₂) (u₃ := u₃) f _ _ rfl rfl j hj
  · iexact H

omit [FloatOps F] in
/-- The rows of a slot holding `P` that a load of rows `r` to `r + n - 1` returns. -/
theorem readAt_pkt {n r : ℕ} {o : Fin S2x4x2x66x128.rank → ℕ} (ho : o = slotOff s p r)
    (inb : ∀ a, o a + (⟨5, ![1, 1, 2, n, 128]⟩ : Shape).size a ≤ S2x4x2x66x128.size a) {P : Pk F}
    {f : M.view.ty.Contents (Elt F)} (hf : ∀ j ∈ slotSet s p, M.view.read (Elt F) f j = pkt P j)
    (w : (⟨5, ![1, 1, 2, n, 128]⟩ : Shape).Idx → Elt F .bf16)
    (hw : ∀ (g : Fin 2) (t : Fin n) (x : Fin 128) (ht : r + t.val < 66), pktAt P g ⟨r + t.val, ht⟩ x = w (ix5 0 0 g t x)) :
    M.view.readAt (Elt F) (Rect.unit (s := S2x4x2x66x128) o (⟨5, ![1, 1, 2, n, 128]⟩ : Shape).size inb).toLoadRect f = w := by
  funext y
  have hr : r + n ≤ 66 := by have := inb 3; rw [ho] at this; exact this
  obtain ⟨y0, y1, g, t, x, rfl⟩ : ∃ (a b : Fin 1) (g : Fin 2) (t : Fin n) (x : Fin 128), y = ix5 a b g t x := ⟨_, _, _, _, _, eq_ix5 y⟩
  have ht : r + t.val < 66 := by have := t.isLt; omega
  obtain rfl := Fin.fin_one_eq_zero y0; obtain rfl := Fin.fin_one_eq_zero y1
  exact (read_rect M ho inb f g t x ht).trans ((hf _ (mem_slotSet.mpr ⟨rfl, rfl⟩)).trans (hw g t x ht))

/-- A load of the weighted sums' rows of a slot holding `P` returns them. -/
theorem wp_load_ctx {P : Pk F} {o : Fin S2x4x2x66x128.rank → ℕ} (ho : o = slotOff s p 0) {i} {l}
    {k : (S1x1x2x64x128.Idx → Elt F .bf16) → Prog (TpuEff nD τ sig (Elt F) Λ₀ .tc) α} :
    slotPts M c s p P ⊢ iprop((slotPts M c s p P -∗ WP c (k P.ctx) Q) -∗
      WP c (.op (.load M (Rect.unit (s := S2x4x2x66x128) o S1x1x2x64x128.size i).toLoadRect l) k) Q) := by
  unfold slotPts
  iintro ⟨%f, %hf, H⟩ Hk
  iapply (wp_load 𝒱₀ (c : Thread nD τ) none Set.univ (m := M) (rect_sub (M := M) ho rfl rfl i)) $$ H; iintro H
  rw [readAt_pkt (M := M) ho i hf P.ctx (fun g t x ht => by
    unfold pktAt; rw [dif_pos (by show 0 + t.val < 64; have := t.isLt; omega)]
    congr 2; exact Fin.ext (Nat.zero_add _))]
  iapply Hk
  iexists f
  isplitr
  · ipureintro; exact hf
  · iexact H

/-- A load of the largest scores' row of a slot holding `P` returns it. -/
theorem wp_load_m {P : Pk F} {o : Fin S2x4x2x66x128.rank → ℕ} (ho : o = slotOff s p 64) {i} {l}
    {k : (S1x1x2x1x128.Idx → Elt F .bf16) → Prog (TpuEff nD τ sig (Elt F) Λ₀ .tc) α} :
    slotPts M c s p P ⊢ iprop((slotPts M c s p P -∗ WP c (k P.m) Q) -∗
      WP c (.op (.load M (Rect.unit (s := S2x4x2x66x128) o S1x1x2x1x128.size i).toLoadRect l) k) Q) := by
  unfold slotPts
  iintro ⟨%f, %hf, H⟩ Hk
  iapply (wp_load 𝒱₀ (c : Thread nD τ) none Set.univ (m := M) (rect_sub (M := M) ho rfl rfl i)) $$ H; iintro H
  rw [readAt_pkt (M := M) ho i hf P.m (fun g t x ht => by
    obtain rfl := Fin.fin_one_eq_zero t
    unfold pktAt; rw [dif_neg (by show ¬ 64 + 0 < 64; omega)]; exact if_pos rfl)]
  iapply Hk
  iexists f
  isplitr
  · ipureintro; exact hf
  · iexact H

/-- A load of the weight sums' row of a slot holding `P` returns it. -/
theorem wp_load_l {P : Pk F} {o : Fin S2x4x2x66x128.rank → ℕ} (ho : o = slotOff s p 65) {i} {l}
    {k : (S1x1x2x1x128.Idx → Elt F .bf16) → Prog (TpuEff nD τ sig (Elt F) Λ₀ .tc) α} :
    slotPts M c s p P ⊢ iprop((slotPts M c s p P -∗ WP c (k P.l) Q) -∗
      WP c (.op (.load M (Rect.unit (s := S2x4x2x66x128) o S1x1x2x1x128.size i).toLoadRect l) k) Q) := by
  unfold slotPts
  iintro ⟨%f, %hf, H⟩ Hk
  iapply (wp_load 𝒱₀ (c : Thread nD τ) none Set.univ (m := M) (rect_sub (M := M) ho rfl rfl i)) $$ H; iintro H
  rw [readAt_pkt (M := M) ho i hf P.l (fun g t x ht => by
    obtain rfl := Fin.fin_one_eq_zero t
    unfold pktAt; rw [dif_neg (by show ¬ 65 + 0 < 64; omega)]; exact if_neg (by show ¬ 65 + 0 = 64; omega))]
  iapply Hk
  iexists f
  isplitr
  · ipureintro; exact hf
  · iexact H

end Rules

/-! ## The whole buffer as its slots -/

/-- All slots of a buffer, whatever they hold. -/
def slotsAny (M : MsgRef) (c : Dev nD) : sProp 𝕄 := bigSep Finset.univ fun sp : Fin 2 × Fin 4 => slotAny (F := F) M c sp.1 sp.2

theorem slots_cover (M : MsgRef) : (Finset.univ : Finset (Fin 2 × Fin 4)).biUnion (fun sp => M.view.setOn (slotSet sp.1 sp.2)) = M.view.set := by
  ext i
  rw [Finset.mem_biUnion]
  constructor
  · rintro ⟨sp, -, h⟩; exact View.setOn_subset_set _ _ h
  · intro h
    obtain ⟨j, -, rfl⟩ := Finset.mem_map.mp h
    exact ⟨(j 0, j 1), Finset.mem_univ _, View.mem_setOn _ |>.mpr (mem_slotSet.mpr ⟨rfl, rfl⟩)⟩

theorem slots_pairwise (M : MsgRef) : ∀ t ∈ (Finset.univ : Finset (Fin 2 × Fin 4)), ∀ t' ∈ (Finset.univ : Finset (Fin 2 × Fin 4)), t ≠ t' →
    Disjoint (M.view.setOn (slotSet t.1 t.2)) (M.view.setOn (slotSet t'.1 t'.2)) :=
  fun _ _ _ _ h => (Finset.disjoint_map _).mpr (slot_disjoint h)

omit [FloatOps F] in
/-- A buffer owned whole is its slots, each owned; -/
theorem slots_split (M : MsgRef) (c : Dev nD) (f : Buf (Elt F) (M.view.loc (c : Thread nD τ))) :
    (M.view.loc (c : Thread nD τ) ↦[M.view.set]{fullShare} f : sProp 𝕄) ⊢ slotsAny (F := F) M c := by
  rw [← slots_cover, pointsTo_biUnion _ _ (slots_pairwise M)]
  unfold slotsAny
  refine bigSep_mono fun sp _ => ?_
  show (M.view.loc (c : Thread nD τ) ↦[M.view.setOn (slotSet sp.1 sp.2)]{fullShare} f : sProp 𝕄) ⊢ slotAny (F := F) M c sp.1 sp.2
  unfold slotAny
  iintro H; iexists f; iexact H

/-- and its slots, each owned, are the buffer. -/
theorem slots_join (M : MsgRef) (c : Dev nD) :
    slotsAny (F := F) M c ⊢ (iprop(∃ f : Buf (Elt F) (M.view.loc (c : Thread nD τ)), M.view.loc (c : Thread nD τ) ↦[M.view.set]{fullShare} f) : sProp 𝕄) := by
  haveI : Nonempty (Buf (Elt F) (M.view.loc (c : Thread nD τ))) :=
    ⟨fun _ => _root_.cast (congrArg (Elt F) M.view.elt_eq.symm) (Scalar.ofBits (F := F) .bf16 0#16)⟩
  unfold slotsAny slotAny
  iintro H
  ihave HK := (BI.bigSep_exists_pi Finset.univ (fun (sp : Fin 2 × Fin 4) (f : Buf (Elt F) (M.view.loc (c : Thread nD τ))) =>
    (M.view.loc (c : Thread nD τ) ↦[M.view.setOn (slotSet sp.1 sp.2)]{fullShare} f : sProp 𝕄))) $$ H
  icases HK with ⟨%fs, H⟩
  ihave H' := (pointsTo_biUnion_join Finset.univ (fun sp : Fin 2 × Fin 4 => M.view.setOn (slotSet sp.1 sp.2)) fs (fs (0, 0)) (slots_pairwise M)) $$ H
  icases H' with ⟨%g, -, H⟩
  iexists g
  rw [slots_cover]
  iexact H

end Cert.RunProof
-- ==== Proof.Protocol.lean ====
/- The exchange protocol: who a device's partner is at each step, the barrier, send and receive cells, the packets that
   pass, each cell's one round of duties, and the order in which a device may wait. Every fact about a send or receive cell
   is stated once, for both steps and all four pieces. -/
module

public import proofs.«01_k».proof.Proof.Slots

@[expose] public section

set_option backward.proofsInPublic true

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
abbrev s₀ : MemSt nD τ sig (Elt F) := ⟨m, fun _ => 0, ρ⟩

/-! ## Partners -/

/-- Device `c`'s partner at step `s`: at step 0 the device whose number differs in the last bit, at step 1 device `3 - c`. -/
def pt : Fin 2 → Dev nD → Dev nD
  | 0, c => (![1, 0, 3, 2] : Fin 4 → Fin 4) c
  | 1, c => (![3, 2, 1, 0] : Fin 4 → Fin 4) c

theorem pt_pt : ∀ (s : Fin 2) (c : Dev nD), pt s (pt s c) = c := by decide

theorem eq_pt_iff : ∀ (s : Fin 2) (c d : Dev nD), c = pt s d ↔ d = pt s c := by decide

/-- Partnering is a permutation of the devices. -/
def ptEquiv (s : Fin 2) : Dev nD ≃ Dev nD := ⟨pt s, pt s, pt_pt s, pt_pt s⟩

/-- The devices the program's signals and copies name, computed from the device's own number, are its partners. -/
theorem dev1_eq : ∀ c : Dev nD, (⟨k0_dev1 c, k0_dev1_lt c⟩ : Dev nD) = pt 0 c := by decide
theorem dev2_eq : ∀ c : Dev nD, (⟨k0_dev2 c, k0_dev2_lt c⟩ : Dev nD) = pt 1 c := by decide
theorem dev3_eq : ∀ c : Dev nD, (⟨k0_dev3 c, k0_dev3_lt c⟩ : Dev nD) = pt 0 c := by decide
theorem dev4_eq : ∀ c : Dev nD, (⟨k0_dev4 c, k0_dev4_lt c⟩ : Dev nD) = pt 0 c := by decide
theorem dev5_eq : ∀ c : Dev nD, (⟨k0_dev5 c, k0_dev5_lt c⟩ : Dev nD) = pt 0 c := by decide
theorem dev6_eq : ∀ c : Dev nD, (⟨k0_dev6 c, k0_dev6_lt c⟩ : Dev nD) = pt 0 c := by decide
theorem dev7_eq : ∀ c : Dev nD, (⟨k0_dev7 c, k0_dev7_lt c⟩ : Dev nD) = pt 1 c := by decide
theorem dev8_eq : ∀ c : Dev nD, (⟨k0_dev8 c, k0_dev8_lt c⟩ : Dev nD) = pt 1 c := by decide
theorem dev9_eq : ∀ c : Dev nD, (⟨k0_dev9 c, k0_dev9_lt c⟩ : Dev nD) = pt 1 c := by decide
theorem dev10_eq : ∀ c : Dev nD, (⟨k0_dev10 c, k0_dev10_lt c⟩ : Dev nD) = pt 1 c := by decide

/-! ## Buffers and cells -/

/-- The send and receive message buffers. -/
abbrev sM : MsgRef := Memref.whole cc0_scratch0
abbrev rM : MsgRef := Memref.whole cc0_scratch1

/-- The barrier semaphore. -/
abbrev barS : Sem sig := (SemArray.scalar (sig.barrier 0 rfl) : Sems sig S_).sem

/-- Entry (s, p) exists in the semaphore arrays. -/
theorem sem_inb (s : Fin 2) (p : Fin 4) : ∀ a, (![s.val, p.val] : Fin 2 → ℕ) a + S1x1.size a ≤ S2x4.size a := by
  revert s p; decide

/-- The semaphore of slot (s, p): the send one (`false`) or the receive one (`true`). -/
def dsem (b : Bool) (s : Fin 2) (p : Fin 4) : DmaSem sig :=
  (((if b then cc0_scratch3 else cc0_scratch2).slice (Rect.unit (s := S2x4) ![s.val, p.val] S1x1.size (sem_inb s p))).squeeze S_
    squeezes_S1x1_S_).sem

/-- A device's own cells: the barrier (`none`), and per direction, step and piece a send or a receive one. -/
abbrev CI : Type := Option (Bool × Fin 2 × Fin 4)

/-- The program's own semaphores for the copies; -/
abbrev osem : Bool × Fin 2 × Fin 4 → SemLoc sig := fun x => .dma (dsem x.1 x.2.1 x.2.2)
/-- and with the barrier. -/
abbrev csem : CI → SemLoc sig := fun | none => .reg barS | some x => osem x

abbrev kcell (ck : Dev nD × CI) : GSem nD τ sig := ((ck.1 : Thread nD τ), csem ck.2)
abbrev barCell (c : Dev nD) : GSem nD τ sig := kcell (c, none)
abbrev sendCell (c : Dev nD) (s : Fin 2) (p : Fin 4) : GSem nD τ sig := kcell (c, some (false, s, p))
abbrev recvCell (c : Dev nD) (s : Fin 2) (p : Fin 4) : GSem nD τ sig := kcell (c, some (true, s, p))

/-- Which of the cells a semaphore is. -/
def kind (g : SemLoc sig) : Option CI := if csem none = g then some none else
  ((List.ofFn fun i : Fin 16 => (⟨decide (8 ≤ i.val), ⟨i.val / 4 % 2, by omega⟩, ⟨i.val % 4, by omega⟩⟩ : Bool × Fin 2 × Fin 4)).find? fun x => osem x = g).map some

set_option maxRecDepth 8000 in
theorem kind_csem : ∀ k : CI, kind (csem k) = some k := by decide +kernel

theorem csem_inj : Function.Injective csem := fun a b h =>
  Option.some.inj ((kind_csem a).symm.trans ((congrArg kind h).trans (kind_csem b)))

theorem kcell_inj : Function.Injective kcell := fun a b h => by
  obtain ⟨h1, h2⟩ := Prod.mk.inj h
  exact Prod.ext (congrArg (fun t : Thread nD τ => t.1) h1) (csem_inj h2)

/-- What one slot's copy counts on its semaphores. -/
abbrev slotInb (s : Fin 2) (p : Fin 4) : Prop := ∀ a, slotOff s p 0 a + S1x1x2x66x128.size a ≤ S2x4x2x66x128.size a
theorem slot_inb (s : Fin 2) (p : Fin 4) : slotInb s p := by unfold slotInb; revert s p; decide

/-- Slot (s, p) of a message buffer, as the copies name it. -/
abbrev slot (M : MsgRef) (s : Fin 2) (p : Fin 4) : Memref sig .tc .vmem S2x66x128 .bf16 :=
  (M.slice (Rect.unit (s := S2x4x2x66x128) (slotOff s p 0) S1x1x2x66x128.size (slot_inb s p)) (fun _ => rfl)).squeeze S2x66x128
    squeezes_S1x1x2x66x128_S2x66x128

/-- The units one slot's copy adds to each of its two semaphores. -/
def N : ℕ := (slot rM 0 0).view.dmaCredit
theorem N_pos : 0 < N := View.dmaCredit_pos _ (by decide)

/-! ## What passes -/

/-- The staged blocks device `c`'s body reads: `x`, `Wq`, its keys, its values, `Wo`. -/
def inX (c : Dev nD) : Vec F S2x128x512 .bf16 := (win0_0.blk (0 : Fin 1)).view.read (Elt F) (m ((c : Thread nD τ).loc main_arg0))
def inWq (c : Dev nD) : Vec F S512x256 .bf16 := (win0_1.blk (0 : Fin 1)).view.read (Elt F) (m ((c : Thread nD τ).loc main_arg1))
def inK (c : Dev nD) : Vec F S2x128x4x64 .bf16 := (win0_2.blk (0 : Fin 1)).view.read (Elt F) (m ((c : Thread nD τ).loc main_arg2))
def inV (c : Dev nD) : Vec F S2x128x4x64 .bf16 := (win0_3.blk (0 : Fin 1)).view.read (Elt F) (m ((c : Thread nD τ).loc main_arg3))
def inWo (c : Dev nD) : Vec F S256x512 .bf16 := (win0_4.blk (0 : Fin 1)).view.read (Elt F) (m ((c : Thread nD τ).loc main_arg4))

/-- Piece `p`'s state at device `c` over its own keys; -/
def own (c : Dev nD) (p : Fin 4) : St F := st0 (inX m c) (inWq m c) (inK m c) (inV m c) c p
/-- combined with its step-0 partner's, over both devices' keys; -/
def pair (c : Dev nD) (p : Fin 4) : St F := combine (own m c p) (unpack (pack (own m (pt 0 c) p)))
/-- and with its step-1 partner's, over all keys. -/
def total (c : Dev nD) (p : Fin 4) : St F := combine (pair m c p) (unpack (pack (pair m (pt 1 c) p)))

/-- The packet device `c` sends at step `s` for piece `p`. -/
def sent (c : Dev nD) : Fin 2 → Fin 4 → Pk F
  | 0, p => pack (own m c p)
  | 1, p => pack (pair m c p)

/-- The output block of device `c`. -/
def outAt (c : Dev nD) : Vec F S2x128x512 .bf16 := fun j =>
  proj (allHeads fun p => finish (total m c p)) (shapeCast S256x512 (inWo m c) shapeCasts_S256x512_S256x512) (j 0) (Idealize.ShloMosaic.ValueIdx.ix2 (j 1) (j 2))

/-! ## The schedule -/

/-- What the step-`s` partner's barrier signal hands device `c`: that partner's step-`s` receive slots. -/
def barPay (c : Dev nD) (s : Fin 2) : sProp 𝕄 := bigSep Finset.univ fun p : Fin 4 => slotAny (F := F) rM (pt s c) s p
/-- What a copy's arrival hands device `c`: its receive slot holding the partner's packet. -/
def recvPay (c : Dev nD) (s : Fin 2) (p : Fin 4) : sProp 𝕄 := slotPts rM c s p (sent m (pt s c) s p)
/-- What a copy's departure hands back: the send slot. -/
def sendPay (c : Dev nD) (s : Fin 2) (p : Fin 4) : sProp 𝕄 := slotAny (F := F) sM c s p

/-- The duties of a cell's only round. -/
def kDuties : Option CI → Finset (Fin 2)
  | some none => Finset.univ
  | some (some _) => {0}
  | none => ∅

/-- What a duty of device `c`'s cell hands it. -/
def kPay (c : Dev nD) : Option CI → Fin 2 → sProp 𝕄
  | some none, s => barPay (F := F) c s
  | some (some (true, s, p)), _ => recvPay m c s p
  | some (some (false, s, p)), _ => sendPay (F := F) c s p
  | none, _ => iprop(emp)

/-- One round, round 0: a barrier cell has one duty per step, of one unit, paid by that step's partner; a send or receive
    cell the one duty of a slot's units. -/
def rd : Rounds.Schedule (GSem nD τ sig) (Fin 2) 𝕄 where
  duties g r := if r = 0 ∧ g.1.2 = .tc then kDuties (kind g.2) else ∅
  unitless _ := False
  amount g _ _ := if kind g.2 = some none then 1 else N
  payload g _ d := kPay m g.1.1 (kind g.2) d
  amount_pos g _ _ _ := by
    by_cases h : kind g.2 = some none
    · rw [if_pos h]; exact Nat.one_pos
    · rw [if_neg h]; exact N_pos

instance rd_payload_storable (g : GSem nD τ sig) (r : ℕ) (d : Fin 2) : BI.Storable (upEmb : UEmb _ 𝕄) ((rd (F := F) m).payload g r d) := by
  show BI.Storable upEmb (kPay m g.1.1 (kind g.2) d)
  rcases kind g.2 with _ | _ | ⟨_ | _, s, p⟩
  · show BI.Storable upEmb (iprop(emp) : sProp 𝕄); infer_instance
  · show BI.Storable upEmb (barPay (F := F) g.1.1 d); unfold barPay; infer_instance
  · show BI.Storable upEmb (sendPay (F := F) g.1.1 s p); unfold sendPay; infer_instance
  · show BI.Storable upEmb (recvPay m g.1.1 s p); unfold recvPay; infer_instance

section Sched
variable (c : Dev nD) (k : CI) (x : Bool × Fin 2 × Fin 4)

theorem duties_at : (rd (F := F) m).duties (kcell (c, k)) 0 = kDuties (some k) := by
  dsimp only [rd]
  rw [if_pos ⟨rfl, rfl⟩, kind_csem]
theorem duties_later (g : GSem nD τ sig) : ∀ r, 1 ≤ r → (rd (F := F) m).duties g r = ∅ :=
  fun r hr => if_neg fun h => by omega
theorem amount_bar (d : Fin 2) : (rd (F := F) m).amount (barCell c) 0 d = 1 := by
  show (if kind (csem none) = some none then 1 else N) = 1
  exact if_pos (kind_csem none)
theorem amount_xfer (d : Fin 2) : (rd (F := F) m).amount (kcell (c, some x)) 0 d = N := by
  show (if kind (csem (some x)) = some none then 1 else N) = N
  exact if_neg fun h => by rw [kind_csem] at h; exact Option.some_ne_none _ (Option.some.inj h)
theorem payload_at (d : Fin 2) : (rd (F := F) m).payload (kcell (c, k)) 0 d = kPay m c (some k) d := by
  show kPay m c (kind (csem k)) d = _
  rw [kind_csem]
theorem expect_bar : (rd (F := F) m).expect (barCell c) 0 = 2 := by
  unfold Schedule.expect Schedule.amountOf
  rw [duties_at, Finset.sum_congr rfl fun d _ => amount_bar m c d]; rfl
theorem expect_xfer : (rd (F := F) m).expect (kcell (c, some x)) 0 = N := by
  unfold Schedule.expect Schedule.amountOf
  rw [duties_at]; exact (Finset.sum_singleton _ _).trans (amount_xfer m c x 0)

/-- All of a barrier cell's round: both partners' receive slots. -/
theorem rest_bar : bigSep ((rd (F := F) m).duties (barCell c) 0 \ ∅) (fun d => (rd (F := F) m).payload (barCell c) 0 d)
    = iprop(barPay (F := F) c 0 ∗ barPay (F := F) c 1) := by
  rw [Finset.sdiff_empty, duties_at, show kDuties (some none) = Finset.univ from rfl,
    bigSep_univ_eq_bigSepL [(0 : Fin 2), 1] (by decide) (by decide), bigSepL_cons_cons, bigSepL_singleton, payload_at, payload_at]
  rfl
/-- All of a send or receive cell's round: its payload. -/
theorem rest_xfer : bigSep ((rd (F := F) m).duties (kcell (c, some x)) 0 \ ∅) (fun d => (rd (F := F) m).payload (kcell (c, some x)) 0 d)
    = kPay m c (some (some x)) 0 := by
  rw [Finset.sdiff_empty, duties_at, show kDuties (some (some x)) = {0} from rfl, bigSep_singleton, payload_at]

end Sched

/-! ## What a device owes, and the levels -/

/-- The slots in the order a device sends them. -/
def order : List (Fin 2 × Fin 4) := [(0, 0), (0, 1), (0, 2), (0, 3), (1, 0), (1, 1), (1, 2), (1, 3)]

/-- What device `c` owes while the sends `l` remain: each one's units on its partner's receive cell. -/
def owe (c : Dev nD) : List (Fin 2 × Fin 4) → CellTallies nD τ sig Unit
  | [] => 0
  | x :: l => owe c l + tallyAt (recvCell (pt x.1 c) x.1 x.2) () N

/-- At the start it also owes both partners' barrier cells one unit. -/
def O₀ (c : Dev nD) : CellTallies nD τ sig Unit :=
  (owe c order + tallyAt (barCell (pt 1 c)) () 1) + tallyAt (barCell (pt 0 c)) () 1

def L (g : GSem nD τ sig) : Finset Unit := if g.1.2 = .tc then {()} else ∅
/-- Barrier cells are at level 1, step 0's receive cells at 2, step 1's at 3, everything else at 0. -/
def klv : Option CI → ℕ
  | some none => 1
  | some (some (true, s, _)) => 2 + s.val
  | _ => 0
def lv (g : GSem nD τ sig) (_ : Unit) : ℕ := klv (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : CI) : lv (kcell (c, k)) () = klv (some k) := by unfold lv; rw [kind_csem]

theorem owe_pos {c : Dev nD} {g : GSem nD τ sig} {u : Unit} : ∀ {l : List (Fin 2 × Fin 4)}, 0 < owe c l g u →
    ∃ x ∈ l, g = recvCell (pt x.1 c) x.1 x.2
  | [], h => absurd h (Nat.lt_irrefl 0)
  | x :: l, h => by
    unfold owe at h
    rw [Pi.add_apply, Finsupp.add_apply, tallyAt_apply] at h
    by_cases hg : g = recvCell (pt x.1 c) x.1 x.2
    · exact ⟨x, List.mem_cons_self, hg⟩
    · rw [if_neg fun h' => hg h'.1] at h
      obtain ⟨y, hy, e⟩ := owe_pos (l := l) (by simpa using h)
      exact ⟨y, List.mem_cons_of_mem _ hy, e⟩

theorem O₀_pos {c : Dev nD} {g : GSem nD τ sig} {u : Unit} (h : 0 < O₀ c g u) :
    ∃ d k, g = kcell (d, k) ∧ 0 < klv (some k) := by
  unfold O₀ at h
  rw [Pi.add_apply, Finsupp.add_apply, Pi.add_apply, Finsupp.add_apply, tallyAt_apply, tallyAt_apply] at h
  by_cases h1 : g = barCell (pt 1 c)
  · exact ⟨_, _, h1, Nat.one_pos⟩
  by_cases h0 : g = barCell (pt 0 c)
  · exact ⟨_, _, h0, Nat.one_pos⟩
  rw [if_neg fun h' => h1 h'.1, if_neg fun h' => h0 h'.1] at h
  obtain ⟨x, -, e⟩ := owe_pos (l := order) (c := c) (g := g) (u := u) (by simpa only [Nat.add_zero] using h)
  exact ⟨_, _, e, by show 0 < 2 + x.1.val; omega⟩

omit [FloatOps F] in
/-- A device may wait on a cell when everything it owes is on cells of higher level. -/
theorem mayWait_of (c : Dev nD) (sm : SemLoc sig) (O : CellTallies nD τ sig Unit)
    (h : ∀ g u, 0 < O g u → ∃ d k, g = kcell (d, k) ∧ klv (kind sm) < klv (some k)) :
    (levAts L lv : sProp 𝕄) ⊢ MayWait (c : Thread nD τ) sm () O :=
  MayOwe.of_cut (L := L) (lev := lv) (klv (kind sm)) (fun p hp => by rw [Finset.mem_singleton.mp hp, L_tc]; exact Finset.mem_singleton_self _)
    (fun g u hg => by obtain ⟨d, k, rfl, -⟩ := h g u hg; rw [L_tc]; exact Finset.mem_singleton_self _)
    (fun p hp => by rw [Finset.mem_singleton.mp hp]; exact le_refl _)
    (fun g u hg => by obtain ⟨d, k, rfl, hk⟩ := h g u hg; rw [lv_at]; exact hk)

omit [FloatOps F] in
/-- It may wait on a semaphore of level 0 owing what it owes at the start, or nothing. -/
theorem mayWait_stage (c : Dev nD) (q : DmaSem sig) (hq : klv (kind (.dma q)) = 0) (O : CellTallies nD τ sig Unit) (hO : O = O₀ c ∨ O = 0) :
    (levAts L lv : sProp 𝕄) ⊢ MayWait (c : Thread nD τ) (.dma q) () O := by
  refine mayWait_of c _ O fun g u hg => ?_
  rcases hO with rfl | rfl
  · obtain ⟨d, k, e, hk⟩ := O₀_pos hg
    exact ⟨d, k, e, by rw [hq]; exact hk⟩
  · exact absurd hg (Nat.lt_irrefl 0)

omit [FloatOps F] in
/-- It may wait on its barrier while it owes every send; -/
theorem mayWait_bar (c : Dev nD) (l : List (Fin 2 × Fin 4)) : (levAts L lv : sProp 𝕄) ⊢ MayWait (c : Thread nD τ) (csem none) () (owe c l) :=
  mayWait_of c _ _ fun g u hg => by
    obtain ⟨x, -, e⟩ := owe_pos hg
    exact ⟨_, _, e, by rw [kind_csem]; show 1 < 2 + x.1.val; omega⟩

omit [FloatOps F] in
/-- and on a copy's cell of step `s`, while every send that remains is of a later step. -/
theorem mayWait_xfer (c : Dev nD) (x : Bool × Fin 2 × Fin 4) (l : List (Fin 2 × Fin 4)) (hl : ∀ y ∈ l, x.2.1 < y.1) :
    (levAts L lv : sProp 𝕄) ⊢ MayWait (c : Thread nD τ) (csem (some x)) () (owe c l) :=
  mayWait_of c _ _ fun g u hg => by
    obtain ⟨y, hy, e⟩ := owe_pos hg
    have := hl y hy
    refine ⟨_, _, e, ?_⟩
    rw [kind_csem]
    rcases x with ⟨_ | _, s, p⟩
    · show 0 < 2 + y.1.val; omega
    · show 2 + s.val < 2 + y.1.val; simpa using this

end Cert.RunProof
-- ==== Proof.Moves.lean ====
/- The moves of the exchange, each proved once for every step and piece: announce to a partner and await both (the
   barrier), send a stored packet, await a partner's packet, await a send's departure, and close the cells at the end. -/
module

public import proofs.«01_k».proof.Proof.Protocol

@[expose] public section

set_option backward.proofsInPublic true

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every cell's invariant, under the names `K` they were allocated at, and that every cell is at its round 0. -/
def records (K : Dev nD × CI → ℕ) : sProp 𝕄 :=
  iprop((bigSep Finset.univ fun ck : Dev nD × CI => cellInv ER (rd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : records m K ⊢ cellInv ER (rd m) (K ck) (kcell ck) := by
  unfold records
  refine sep_elim_left.trans ?_
  exact bigSep_elim (Φ := fun ck : Dev nD × CI => cellInv ER (rd m) (K ck) (kcell ck)) (Finset.mem_univ ck)

theorem reached_at (K : Dev nD × CI → ℕ) (ck : Dev nD × CI) : records m K ⊢ (reached ER (kcell ck) 0 : sProp 𝕄) := by
  unfold records
  refine sep_elim_right.trans ?_
  exact bigSep_elim (Φ := fun ck : Dev nD × CI => (reached ER (kcell ck) 0 : sProp 𝕄)) (Finset.mem_univ ck)

/-- What device `c` owes, whatever cells it has waited on so far. -/
def debt (c : Dev nD) (O : CellTallies nD τ sig Unit) : sProp 𝕄 := iprop(∃ W, owes (c : Thread nD τ) O W)

/-- Device `c`'s place at round `r` of its cell `k`, none of the round's duties taken. -/
abbrev at_ (c : Dev nD) (k : CI) (r : ℕ) : sProp 𝕄 := atPos ER (kcell (c, k)) r ∅ 0

/-! ## A slot's copy lands as a packet -/

omit [FloatOps F] in
/-- Where an element of a slot, as the copies name it, sits in the whole message buffer. -/
def slotIdx (s : Fin 2) (p : Fin 4) (y : S2x66x128.Idx) : S2x4x2x66x128.Idx :=
  (Rect.unit (s := S2x4x2x66x128) (slotOff s p 0) S1x1x2x66x128.size (slot_inb s p)).emb
    (Shape.reshapeEquiv squeezes_S1x1x2x66x128_S2x66x128.numel_eq y)

omit [FloatOps F] in
theorem read_slot (M : MsgRef) (s : Fin 2) (p : Fin 4) (f : M.view.ty.Contents (Elt F)) (y : S2x66x128.Idx) :
    (slot M s p).view.read (Elt F) f y = M.view.read (Elt F) f (slotIdx s p y) := rfl

omit [FloatOps F] in
theorem slot_set (M : MsgRef) (s : Fin 2) (p : Fin 4) : (slot M s p).view.set = M.view.setOn (slotSet s p) := by
  show (View.reshape (M.view.slice _) _ _).set = _
  rw [View.set_reshape, View.set_slice, slotRect_set rfl]
  rfl

omit [FloatOps F] in
/-- A slot copied from a send buffer holding `P` there holds `P`. -/
theorem slot_landed (s : Fin 2) (p : Fin 4) (P : Pk F) (fs : sM.view.ty.Contents (Elt F)) (fd : rM.view.ty.Contents (Elt F))
    (hf : ∀ j ∈ slotSet s p, sM.view.read (Elt F) fs j = pkt P j) (j : S2x4x2x66x128.Idx) (hj : j ∈ slotSet s p) :
    rM.view.read (Elt F) ((slot rM s p).view.write (Elt F) fd ((slot sM s p).view.read (Elt F) fs) Finset.univ) j = pkt P j := by
  obtain ⟨y, rfl⟩ : ∃ y, slotIdx s p y = j := by
    rw [← slotRect_set rfl (slot_inb s p)] at hj
    obtain ⟨x, -, hx⟩ := Finset.mem_map.mp (Rect.map_emb_univ _ ▸ hj)
    obtain ⟨y, rfl⟩ := (Shape.reshapeEquiv squeezes_S1x1x2x66x128_S2x66x128.numel_eq).surjective x
    exact ⟨y, hx⟩
  rw [← read_slot, View.read_write_univ, read_slot]
  exact hf _ hj

/-! ## The moves -/

section Rules
variable (K : Dev nD × CI → ℕ) (c : Dev nD)
variable {α : Type} {Q : α → sProp (MT nD τ sig Unit (Elt F) ℕ UU ℕ)}

/-- What a device needs for its send of slot (s, p): the duties it pays with that copy, its own send cell's and its
    partner's receive cell's. -/
def sendToks (s : Fin 2) (p : Fin 4) : sProp 𝕄 :=
  iprop(dutyTok ER (sendCell c s p) 0 0 ∗ dutyTok ER (recvCell (pt s c) s p) 0 0)

/-- Announcing to the step-`s` partner: the device's own step-`s` receive slots go with the signal. -/
theorem wp_announce (s : Fin 2) {n : Dev nD} (hn : n = pt s c) (O : CellTallies nD τ sig Unit) {a : ℕ} (ha : a = 1)
    {k : PUnit → Prog (TpuEff nD τ sig (Elt F) Λ₀ .tc) α} :
    iprop(records m K ∗ debt c (O + tallyAt (barCell (pt s c)) () 1) ∗ dutyTok ER (barCell (pt s c)) 0 s
        ∗ (bigSep Finset.univ fun p : Fin 4 => slotAny (F := F) rM c s p))
      ⊢ iprop((debt c O -∗ WP c (k ⟨⟩) Q) -∗ WP c (.op (.semSignal (n : Thread nD τ) barS a) k) Q) := by
  subst hn ha
  unfold debt
  iintro ⟨#HR, ⟨%W, HO⟩, Ht, Hs⟩ Hk
  iapply (Rounds.wp_signal 𝒱₀ ER (rd m) (c : Thread nD τ) none (dst := (pt s c : Thread nD τ)) (κ := K (pt s c, none)) (d := s)
      (by rw [duties_at m (pt s c) none]; exact Finset.mem_univ _) (amount_bar m (pt s c) s) () O rfl) $$ [HO Ht Hs]
  · isplitr; · iapply (inv_at m K (pt s c, none)); iexact HR
    isplitl [HO]; · iexact HO
    isplitl [Ht]; · iexact Ht
    isplitl [Hs]
    · rw [payload_at m (pt s c) none, show kPay m (pt s c) (some none) s = barPay (F := F) (pt s c) s from rfl]; unfold barPay; rw [pt_pt]; iexact Hs
    · iapply (reached_at m K (pt s c, none)); iexact HR
  iintro HO
  iapply Hk
  iexists W; iexact HO

/-- Awaiting both partners' announcements, with the sends `l` still owed: both partners' receive slots arrive. -/
theorem wp_await (l : List (Fin 2 × Fin 4)) {a : ℕ} (ha : a = 2) {k : PUnit → Prog (TpuEff nD τ sig (Elt F) Λ₀ .tc) α} :
    iprop(records m K ∗ levAts L lv ∗ cred (tallyAt (barCell c) () 2) ∗ debt c (owe c l) ∗ at_ (F := F) c none 0)
      ⊢ iprop(((debt c (owe c l) ∗ at_ (F := F) c none 1 ∗ barPay (F := F) c 0 ∗ barPay (F := F) c 1) -∗ WP c (k ⟨⟩) Q)
          -∗ WP c (.op (.semWait barS a) k) Q) := by
  subst ha
  unfold debt
  iintro ⟨#HR, #Hlev, Hc, ⟨%W, HO⟩, Hat⟩ Hk
  iapply (Rounds.wp_wait_rest_token 𝒱₀ ER (rd m) (c : Thread nD τ) none (κ := K (c, none))
      (wpE_semWait_eq 𝒱₀ (c : Thread nD τ) none Set.univ) (Set.mem_univ _) () (O := owe c l) (W := W) (R := 0) (m := 0) (T := ∅)
      (by rw [Nat.zero_add, expect_bar])) $$ [Hc HO Hat]
  · isplitr; · iapply (inv_at m K (c, none)); iexact HR
    isplitl [Hc]; · iexact Hc
    isplitl [HO]; · iexact HO
    isplitr; · iapply (mayWait_bar c l); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- The units a slot's copy counts are the same for every slot. -/
theorem amount_slot (s : Fin 2) (p : Fin 4) (q : DmaSem sig) : (slot rM s p).view.amount (.dma q) = N := rfl

/-- Sending slot (s, p) holding the packet device `c` sends there, its partner's slot in hand. -/
theorem wp_ship (s : Fin 2) (p : Fin 4) (l : List (Fin 2 × Fin 4)) {n : Dev nD} (hn : n = pt s c) {qs qr : DmaSem sig}
    (hqs : qs = dsem false s p) (hqr : qr = dsem true s p) {o : Fin S2x4x2x66x128.rank → ℕ} (ho : o = slotOff s p 0)
    {i : ∀ a, o a + S1x1x2x66x128.size a ≤ S2x4x2x66x128.size a} {h₁ h₂ h₃ h₄}
    {k : PUnit → Prog (TpuEff nD τ sig (Elt F) Λ₀ .tc) α} :
    iprop(records m K ∗ slotPts sM c s p (sent m c s p) ∗ slotAny (F := F) rM (pt s c) s p ∗ debt c (owe c ((s, p) :: l)) ∗ sendToks (F := F) c s p)
      ⊢ iprop(((cred (tallyAt (sendCell c s p) () N) ∗ debt c (owe c l)) -∗ WP c (k ⟨⟩) Q)
          -∗ WP c (.op (.enqueueDma
              ((sM.slice (Rect.unit (s := S2x4x2x66x128) o S1x1x2x66x128.size i) (fun _ => rfl)).squeeze S2x66x128 squeezes_S1x1x2x66x128_S2x66x128)
              (.remote (Dev.tc n : Thread nD τ)
                ((rM.slice (Rect.unit (s := S2x4x2x66x128) o S1x1x2x66x128.size i) (fun _ => rfl)).squeeze S2x66x128 squeezes_S1x1x2x66x128_S2x66x128)
                (.dma qs) h₁) (.dma qr) h₂ h₃ h₄) k) Q) := by
  subst hn hqs hqr ho
  unfold slotPts slotAny debt sendToks
  iintro ⟨#HR, ⟨%fs, %hfs, Hs⟩, ⟨%fd, Hd⟩, ⟨%W, HO⟩, Hts, Htr⟩ Hk
  iapply (Rounds.wp_send_pointsTo 𝒱₀ ER (rd m) (c : Thread nD τ) none (κ₁ := K (c, some (false, s, p))) (κ₂ := K (pt s c, some (true, s, p)))
    (src := slot sM s p) (dst := slot rM s p) (sS := csem (some (false, s, p))) (sem := csem (some (true, s, p))) (c' := (pt s c : Thread nD τ))
    (r₁ := 0) (r₂ := 0) (d₁ := 0) (d₂ := 0) (fs := fs) (fd := fd) (q := fullShare)
    (by rw [duties_at m c (some (false, s, p))]; exact Finset.mem_singleton_self _)
    (by rw [duties_at m (pt s c) (some (true, s, p))]; exact Finset.mem_singleton_self _)
    () () N (amount_slot s p _) (amount_xfer m c (false, s, p) 0) (amount_xfer m (pt s c) (true, s, p) 0) (owe c l) rfl (W := W)
    (by
      rw [payload_at m c (some (false, s, p)), slot_set]
      show _ ⊢ sendPay (F := F) c s p
      unfold sendPay slotAny
      iintro H; iexists fs; iexact H)
    (by
      rw [payload_at m (pt s c) (some (true, s, p)), slot_set]
      show _ ⊢ recvPay m (pt s c) s p
      unfold recvPay slotPts; rw [pt_pt]
      iintro H
      iexists ((slot rM s p).view.write (Elt F) fd ((slot sM s p).view.read (Elt F) fs) Finset.univ)
      isplitr
      · ipureintro; exact slot_landed s p _ fs fd hfs
      · iexact H)) $$ [Hs Hd HO Hts Htr]
  · isplitr; · iapply (inv_at m K (c, some (false, s, p))); iexact HR
    isplitr; · iapply (inv_at m K (pt s c, some (true, s, p))); iexact HR
    isplitl [Hs]; · rw [slot_set]; iexact Hs
    isplitl [Hd]; · rw [slot_set]; iexact Hd
    isplitl [HO]; · iexact HO
    isplitl [Hts]; · iexact Hts
    isplitr; · iapply (reached_at m K (c, some (false, s, p))); iexact HR
    isplitl [Htr]; · iexact Htr
    iapply (reached_at m K (pt s c, some (true, s, p))); iexact HR
  iintro ⟨Hc, HO⟩
  iapply Hk
  isplitl [Hc]; · iexact Hc
  iexists W; iexact HO

/-- Awaiting a copy on a send or receive cell, the sends `l` still owed all of later steps: the cell's payload arrives. -/
theorem wp_landed (x : Bool × Fin 2 × Fin 4) (l : List (Fin 2 × Fin 4)) (hl : ∀ y ∈ l, x.2.1 < y.1) {q : DmaSem sig}
    (hq : q = dsem x.1 x.2.1 x.2.2) {src dst : Memref sig .tc .vmem S2x66x128 .bf16} (hN : dst.view.dmaCredit = N) {h₁ h₂}
    {k : PUnit → Prog (TpuEff nD τ sig (Elt F) Λ₀ .tc) α} :
    iprop(records m K ∗ levAts L lv ∗ cred (tallyAt (kcell (c, some x)) () N) ∗ debt c (owe c l) ∗ at_ (F := F) c (some x) 0)
      ⊢ iprop(((debt c (owe c l) ∗ at_ (F := F) c (some x) 1 ∗ kPay m c (some (some x)) 0) -∗ WP c (k ⟨⟩) Q)
          -∗ WP c (.op (.waitDma2 q src dst h₁ h₂) k) Q) := by
  subst hq
  unfold debt
  iintro ⟨#HR, #Hlev, Hc, ⟨%W, HO⟩, Hat⟩ Hk
  iapply (Rounds.wp_wait_rest_token 𝒱₀ ER (rd m) (c : Thread nD τ) none (κ := K (c, some x)) (sm := csem (some x)) (k' := N)
      (fun Kk => by rw [← hN]; exact wpE_waitDma2_eq 𝒱₀ (c : Thread nD τ) none Set.univ Kk) (Set.mem_univ _) () (O := owe c l) (W := W) (R := 0) (m := 0) (T := ∅)
      (by rw [Nat.zero_add, expect_xfer m c x])) $$ [Hc HO Hat]
  · isplitr; · iapply (inv_at m K (c, some x)); iexact HR
    isplitl [Hc]; · iexact Hc
    isplitl [HO]; · iexact HO
    isplitr; · iapply (mayWait_xfer c x l hl); iexact Hlev
    iexact Hat
  iintro ⟨HO, Hat, -, Hpay⟩
  ihave Hp := (Entails.of_eq (rest_xfer m c x)) $$ Hpay
  iapply Hk
  isplitl [HO]; · iexists _; iexact HO
  isplitl [Hat]; · iexact Hat
  iexact Hp

/-- At the end every cell of a device closes: its counter is the device's again, at zero. -/
theorem close_all : iprop(records m K ∗ bigSep Finset.univ fun k : CI => at_ (F := F) c k 1)
    ⊢ iprop(|={Set.univ}=> bigSep Finset.univ fun k : CI => (semVal (kcell (c, k)) 0 : sProp 𝕄)) := by
  refine ((sep_mono_left (BI.bigSep_of_persistent (Finset.univ : Finset CI) (records m K))).trans ?_).trans (bigSep_fupd _ _)
  rw [← bigSep_sep']
  refine bigSep_mono fun k _ => ?_
  show iprop(records m K ∗ at_ (F := F) c k 1) ⊢ iprop(|={Set.univ}=> (semVal (kcell (c, k)) 0 : sProp 𝕄))
  iintro ⟨#HR, Hat⟩
  iapply (Rounds.cell_close ER (rd m) (Set.mem_univ (K (c, k))) (fun h => h) (R := 1) (duties_later m (kcell (c, k))))
  isplitr
  · iapply (inv_at m K (c, k)); iexact HR
  · iexact Hat

end Rules

end Cert.RunProof
-- ==== Proof.Steps.lean ====
/- The kernel's steps, each put together from the moves and proved once for every step and piece: give a slot (store a
   packet and send it), take a slot (await the partner's packet and load its three parts), reclaim a slot (await the
   departure); and the two stores of the output. -/
module

public import proofs.«01_k».proof.Proof.Moves
public import Idealize.ShloMosaic.Lib.ValueLayout

@[expose] public section

set_option backward.proofsInPublic true

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.ValueIdx

section Steps
variable (K : Dev nD × CI → ℕ) (c : Dev nD)
variable {α : Type} {Q : α → sProp (MT nD τ sig Unit (Elt F) ℕ UU ℕ)}

/-- What device `c` gives slot (s, p) from: its send slot, the duties its copy pays, and its place on the send cell. -/
def toGive (s : Fin 2) (p : Fin 4) : sProp 𝕄 := iprop(slotAny (F := F) sM c s p ∗ sendToks (F := F) c s p ∗ at_ (F := F) c (some (false, s, p)) 0)
/-- What it has while the copy is out; -/
def given (s : Fin 2) (p : Fin 4) : sProp 𝕄 := iprop(cred (tallyAt (sendCell c s p) () N) ∗ at_ (F := F) c (some (false, s, p)) 0)
/-- and once the copy has left. -/
def home (s : Fin 2) (p : Fin 4) : sProp 𝕄 := iprop(slotAny (F := F) sM c s p ∗ at_ (F := F) c (some (false, s, p)) 1)
/-- What it takes slot (s, p) with; -/
def toTake (s : Fin 2) (p : Fin 4) : sProp 𝕄 := iprop(cred (tallyAt (recvCell c s p) () N) ∗ at_ (F := F) c (some (true, s, p)) 0)
/-- and what it has then. -/
def taken (s : Fin 2) (p : Fin 4) : sProp 𝕄 := iprop(slotAny (F := F) rM c s p ∗ at_ (F := F) c (some (true, s, p)) 1)

/-- Giving slot (s, p): the stores of the packet device `c` sends there, and its copy to the partner's slot. -/
theorem wp_give (s : Fin 2) (p : Fin 4) (l : List (Fin 2 × Fin 4)) {n : Dev nD} (hn : n = pt s c) {qs qr : DmaSem sig}
    (hqs : qs = dsem false s p) (hqr : qr = dsem true s p)
    {o₁ o₂ o₃ : Fin S2x4x2x66x128.rank → ℕ} (ho₁ : o₁ = slotOff s p 0) (ho₂ : o₂ = slotOff s p 64) (ho₃ : o₃ = slotOff s p 65) {i₁ i₂ i₃ i₄}
    {w₁ : S1x1x2x64x128.Idx → Elt F .bf16} {w₂ w₃ : S1x1x2x1x128.Idx → Elt F .bf16}
    (e₁ : w₁ = (sent m c s p).ctx) (e₂ : w₂ = (sent m c s p).m) (e₃ : w₃ = (sent m c s p).l)
    {l₁ l₂ l₃ l₄ t₁ t₄ x₁ x₄ u₂ u₃ l₅ t₅ x₅} {i : ∀ a, o₁ a + S1x1x2x66x128.size a ≤ S2x4x2x66x128.size a} {h₁ h₂ h₃ h₄}
    {k : PUnit → Prog (TpuEff nD τ sig (Elt F) Λ₀ .tc) α} :
    iprop(records m K ∗ toGive (F := F) c s p ∗ slotAny (F := F) rM (pt s c) s p ∗ debt c (owe c ((s, p) :: l)))
      ⊢ iprop(((given (F := F) c s p ∗ debt c (owe c l)) -∗ WP c (k ⟨⟩) Q) -∗
      WP c (.op (.load sM (Rect.unit (s := S2x4x2x66x128) o₁ S1x1x2x64x128.size i₁).toLoadRect l₁) fun _ =>
        .op (.store sM (Rect.unit (s := S2x4x2x66x128) o₁ S1x1x2x64x128.size i₁) w₁ Finset.univ t₁ x₁) fun _ =>
        .op (.load sM (Rect.unit (s := S2x4x2x66x128) o₂ S1x1x2x1x128.size i₂).toLoadRect l₂) fun _ =>
        .op (.load sM (Rect.unit (s := S2x4x2x66x128) o₂ S1x1x2x2x128.size i₄).toLoadRect l₄) fun old =>
        .op (.store sM (Rect.unit (s := S2x4x2x66x128) o₂ S1x1x2x2x128.size i₄) (updateSlice old w₂ ![0, 0, 0, 0, 0] u₂) Finset.univ t₄ x₄) fun _ =>
        .op (.load sM (Rect.unit (s := S2x4x2x66x128) o₃ S1x1x2x1x128.size i₃).toLoadRect l₃) fun _ =>
        .op (.load sM (Rect.unit (s := S2x4x2x66x128) o₂ S1x1x2x2x128.size i₄).toLoadRect l₅) fun old =>
        .op (.store sM (Rect.unit (s := S2x4x2x66x128) o₂ S1x1x2x2x128.size i₄) (updateSlice old w₃ ![0, 0, 0, 1, 0] u₃) Finset.univ t₅ x₅) fun _ =>
        .op (.enqueueDma
              ((sM.slice (Rect.unit (s := S2x4x2x66x128) o₁ S1x1x2x66x128.size i) (fun _ => rfl)).squeeze S2x66x128 squeezes_S1x1x2x66x128_S2x66x128)
              (.remote (Dev.tc n : Thread nD τ)
                ((rM.slice (Rect.unit (s := S2x4x2x66x128) o₁ S1x1x2x66x128.size i) (fun _ => rfl)).squeeze S2x66x128 squeezes_S1x1x2x66x128_S2x66x128)
                (.dma qs) h₁) (.dma qr) h₂ h₃ h₄) k) Q) := by
  unfold toGive given
  iintro ⟨#HR, ⟨Hs, Ht, Hat⟩, Hd, HO⟩ Hk
  iapply (wp_store_packet (sent m c s p) ho₁ ho₂ ho₃ e₁ e₂ e₃) $$ Hs
  iintro Hs
  iapply (wp_ship m K c s p l hn hqs hqr ho₁) $$ [Hs Hd HO Ht]
  · isplitr; · iexact HR
    isplitl [Hs]; · iexact Hs
    isplitl [Hd]; · iexact Hd
    isplitl [HO]; · iexact HO
    iexact Ht
  iintro ⟨Hc, HO⟩
  iapply Hk
  isplitl [Hc Hat]
  · isplitl [Hc]; · iexact Hc
    iexact Hat
  iexact HO

/-- Taking slot (s, p): the wait for the partner's packet and the loads of its three parts. -/
theorem wp_take (s : Fin 2) (p : Fin 4) (l : List (Fin 2 × Fin 4)) (hl : ∀ y ∈ l, s < y.1) {q : DmaSem sig} (hq : q = dsem true s p)
    {src dst : Memref sig .tc .vmem S2x66x128 .bf16} (hN : dst.view.dmaCredit = N) {h₁ h₂}
    {o₁ o₂ o₃ : Fin S2x4x2x66x128.rank → ℕ} (ho₁ : o₁ = slotOff s p 0) (ho₂ : o₂ = slotOff s p 64) (ho₃ : o₃ = slotOff s p 65) {i₁ i₂ i₃ l₁ l₂ l₃}
    {k : (S1x1x2x64x128.Idx → Elt F .bf16) → (S1x1x2x1x128.Idx → Elt F .bf16) → (S1x1x2x1x128.Idx → Elt F .bf16) →
      Prog (TpuEff nD τ sig (Elt F) Λ₀ .tc) α} :
    iprop(records m K ∗ levAts L lv ∗ toTake (F := F) c s p ∗ debt c (owe c l))
      ⊢ iprop(((taken (F := F) c s p ∗ debt c (owe c l)) -∗
          WP c (k (sent m (pt s c) s p).ctx (sent m (pt s c) s p).m (sent m (pt s c) s p).l) Q) -∗
        WP c (.op (.waitDma2 q src dst h₁ h₂) fun _ =>
          .op (.load rM (Rect.unit (s := S2x4x2x66x128) o₁ S1x1x2x64x128.size i₁).toLoadRect l₁) fun a =>
          .op (.load rM (Rect.unit (s := S2x4x2x66x128) o₂ S1x1x2x1x128.size i₂).toLoadRect l₂) fun b =>
          .op (.load rM (Rect.unit (s := S2x4x2x66x128) o₃ S1x1x2x1x128.size i₃).toLoadRect l₃) fun d => k a b d) Q) := by
  unfold toTake taken
  iintro ⟨#HR, #Hlev, ⟨Hc, Hat⟩, HO⟩ Hk
  iapply (wp_landed m K c (true, s, p) l hl hq hN) $$ [Hc HO Hat]
  · isplitr; · iexact HR
    isplitr; · iexact Hlev
    isplitl [Hc]; · iexact Hc
    isplitl [HO]; · iexact HO
    iexact Hat
  rw [show kPay m c (some (some (true, s, p))) 0 = slotPts rM c s p (sent m (pt s c) s p) from rfl]
  iintro ⟨HO, Hat, Hs⟩
  iapply (wp_load_ctx ho₁) $$ Hs; iintro Hs
  iapply (wp_load_m ho₂) $$ Hs; iintro Hs
  iapply (wp_load_l ho₃) $$ Hs; iintro Hs
  iapply Hk
  isplitl [Hs Hat]
  · isplitl [Hs]; · iapply (slotPts_any rM c s p _); iexact Hs
    iexact Hat
  iexact HO

/-- Reclaiming slot (s, p): the wait for its copy's departure. -/
theorem wp_reclaim (s : Fin 2) (p : Fin 4) {q : DmaSem sig} (hq : q = dsem false s p)
    {src dst : Memref sig .tc .vmem S2x66x128 .bf16} (hN : dst.view.dmaCredit = N) {h₁ h₂}
    {k : PUnit → Prog (TpuEff nD τ sig (Elt F) Λ₀ .tc) α} :
    iprop(records m K ∗ levAts L lv ∗ given (F := F) c s p ∗ debt c (owe c []))
      ⊢ iprop(((home (F := F) c s p ∗ debt c (owe c [])) -∗ WP c (k ⟨⟩) Q) -∗ WP c (.op (.waitDma2 q src dst h₁ h₂) k) Q) := by
  unfold given home
  iintro ⟨#HR, #Hlev, ⟨Hc, Hat⟩, HO⟩ Hk
  iapply (wp_landed m K c (false, s, p) [] (fun y hy => absurd hy List.not_mem_nil) hq hN) $$ [Hc HO Hat]
  · isplitr; · iexact HR
    isplitr; · iexact Hlev
    isplitl [Hc]; · iexact Hc
    isplitl [HO]; · iexact HO
    iexact Hat
  rw [show kPay m c (some (some (false, s, p))) 0 = slotAny (F := F) sM c s p from rfl]
  iintro ⟨HO, Hat, Hs⟩
  iapply Hk
  isplitl [Hs Hat]
  · isplitl [Hs]; · iexact Hs
    iexact Hat
  iexact HO

end Steps

/-! ## The output's two stores -/

omit [FloatOps F] in
/-- A store of batch `b`'s block of the output buffer: that batch reads the stored value, the other what it did. -/
theorem write_batch {o : Fin S2x128x512.rank → ℕ} (b : Fin 2) (ho : o = ![b.val, 0, 0]) (inb : ∀ a, o a + S1x128x512.size a ≤ S2x128x512.size a)
    (f : (cc0_stg5_0 : Ref sig .tc).ty.Contents (Elt F)) (w : S1x128x512.Idx → Elt F .bf16) (j : S2x128x512.Idx) :
    ((Memref.whole cc0_stg5_0).access (Rect.unit (s := S2x128x512) o S1x128x512.size inb) : View sig .tc _ _ _).write (Elt F) f w Finset.univ j
      = if (j 0).val = b.val then w (ix3 0 (j 1) (j 2)) else f j := by
  subst ho
  have hread : ∀ g : (cc0_stg5_0 : Ref sig .tc).ty.Contents (Elt F), (Memref.whole cc0_stg5_0 : Memref sig .tc .vmem S2x128x512 .bf16).view.read (Elt F) g = g :=
    fun g => View.read_whole _ _
  refine (congrFun (hread _) j).symm.trans ?_
  obtain ⟨d, x, y, rfl⟩ : ∃ (d : Fin 2) (x : Fin 128) (y : Fin 512), j = ix3 d x y := ⟨_, _, _, eq_ix3 j⟩
  by_cases h : d.val = b.val
  · refine Eq.trans ?_ (if_pos h).symm
    have he : (ix3 d x y : S2x128x512.Idx) = (Rect.unit (s := S2x128x512) ![b.val, 0, 0] S1x128x512.size inb).emb (ix3 0 x y) := by
      funext a; refine Fin.ext ?_
      fin_cases a
      · show d.val = b.val + 1 * 0; omega
      · show x.val = 0 + 1 * x.val; omega
      · show y.val = 0 + 1 * y.val; omega
    refine (congrArg _ he).trans ?_
    exact View.read_slice_write_emb (v := (Memref.whole cc0_stg5_0 : Memref sig .tc .vmem S2x128x512 .bf16).view)
      (Rect.unit (s := S2x128x512) ![b.val, 0, 0] S1x128x512.size inb) f w (Finset.mem_univ _)
  · refine Eq.trans ?_ (if_neg h).symm
    refine (View.read_slice_write_of_not_mem (v := (Memref.whole cc0_stg5_0 : Memref sig .tc .vmem S2x128x512 .bf16).view)
      (Rect.unit (s := S2x128x512) ![b.val, 0, 0] S1x128x512.size inb) f w _ fun hm => h ?_).trans (congrFun (hread f) _)
    obtain ⟨z, -, hz⟩ := Finset.mem_map.mp hm
    have h0 : b.val + 1 * (z 0).val = d.val := congrArg (fun i : S2x128x512.Idx => (i 0).val) hz
    have h1 : (z 0).val < 1 := (z 0).isLt
    omega

/-- Both batches stored: the output buffer holds device `c`'s output. -/
theorem write_both (c : Dev nD) {o₀ o₁ : Fin S2x128x512.rank → ℕ} (h₀ : o₀ = ![0, 0, 0]) (h₁ : o₁ = ![1, 0, 0]) {i₀ i₁}
    (f : (cc0_stg5_0 : Ref sig .tc).ty.Contents (Elt F)) {w₀ w₁ : S1x128x512.Idx → Elt F .bf16}
    (e₀ : w₀ = shapeCast S1x128x512 (proj (allHeads fun p => finish (total m c p)) (shapeCast S256x512 (inWo m c) shapeCasts_S256x512_S256x512) 0) shapeCasts_S128x512_S1x128x512)
    (e₁ : w₁ = shapeCast S1x128x512 (proj (allHeads fun p => finish (total m c p)) (shapeCast S256x512 (inWo m c) shapeCasts_S256x512_S256x512) 1) shapeCasts_S128x512_S1x128x512) :
    ((Memref.whole cc0_stg5_0).access (Rect.unit (s := S2x128x512) o₁ S1x128x512.size i₁) : View sig .tc _ _ _).write (Elt F)
      (((Memref.whole cc0_stg5_0).access (Rect.unit (s := S2x128x512) o₀ S1x128x512.size i₀) : View sig .tc _ _ _).write (Elt F) f w₀ Finset.univ)
      w₁ Finset.univ = outAt m c := by
  funext j
  refine (write_batch 1 h₁ i₁ _ w₁ j).trans ?_
  obtain ⟨b, x, y, rfl⟩ : ∃ (b : Fin 2) (x : Fin 128) (y : Fin 512), j = ix3 b x y := ⟨_, _, _, eq_ix3 j⟩
  show (if b.val = (1 : Fin 2).val then w₁ (ix3 0 x y) else _) = proj _ _ b (ix2 x y)
  by_cases hb : b = 1
  · subst hb
    rw [if_pos rfl, e₁]
    exact shapeCast_ab_1ab_apply _ _ 0 x y
  · have hb0 : b = 0 := by omega
    subst hb0
    rw [if_neg (by decide)]
    refine (write_batch 0 h₀ i₀ f w₀ (ix3 0 x y)).trans ?_
    refine (if_pos rfl).trans ?_
    rw [e₀]
    exact shapeCast_ab_1ab_apply _ _ 0 x y

end Cert.RunProof
-- ==== Proof.Body.lean ====
/- The kernel's body on one device: the data of its one grid point, what the body starts from and leaves, and the run
   through its operations in program order. -/
module

public import proofs.«01_k».proof.Proof.Steps
public import proofs.«01_k».proof.Proof.Gen.KernelIdeal.Launch
public import proofs.«01_k».proof.Proof.Gen.KernelIdeal.Points
public import Idealize.ShloMosaic.Lib.Pipeline.Value

@[expose] public section

set_option backward.proofsInPublic true

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The one grid point's data -/

/-- The tokens of the duties device `c` pays: both partners' barrier duty, and for every slot its copy's two. -/
def payToks (c : Dev nD) : sProp 𝕄 :=
  iprop((bigSep Finset.univ fun s : Fin 2 => dutyTok ER (barCell (pt s c)) 0 s)
    ∗ bigSep Finset.univ fun sp : Fin 2 × Fin 4 => sendToks (F := F) c sp.1 sp.2)

/-- The protocol state device `c` starts from. -/
def ghost (K : Dev nD × CI → ℕ) (c : Dev nD) : sProp 𝕄 :=
  iprop(records m K ∗ (bigSep Finset.univ fun k : CI => at_ (F := F) c k 0) ∗ payToks (F := F) c)

/-- That at some names, the credit for its two barrier units and for its eight receptions, and the level facts. -/
def start (c : Dev nD) : sProp 𝕄 :=
  iprop((∃ K, ghost m K c) ∗ cred (tallyAt (barCell c) () 2)
    ∗ (bigSep Finset.univ fun sp : Fin 2 × Fin 4 => cred (tallyAt (recvCell c sp.1 sp.2) () N)) ∗ levAts L lv)

/-- Before the point: that and the two message buffers; -/
def Φ₀ (c : Dev nD) : sProp 𝕄 := iprop(start m c ∗ slotsAny (F := F) sM c ∗ slotsAny (F := F) rM c)
/-- after it: the message buffers and every cell's counter at zero. -/
def Φ₁ (c : Dev nD) : sProp 𝕄 :=
  iprop(slotsAny (F := F) sM c ∗ slotsAny (F := F) rM c ∗ bigSep Finset.univ fun k : CI => (semVal (kcell (c, k)) 0 : sProp 𝕄))

variable (ρ : Dev nD → PrngReg)

/-- The pipeline's proof data: each window's block after the point, what is held and owed before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inWq m c
    | ⟨2, _⟩ => inK m c
    | ⟨3, _⟩ => inV m c
    | ⟨4, _⟩ => inWo m c
    | ⟨5, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

omit [FloatOps F] in
/-- A staging buffer owned through the memref that is it. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Dealing and gathering -/

omit [FloatOps F] in
/-- A conjunction over the slots, written out. -/
theorem bigSep_slots (Φ : Fin 2 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

omit [FloatOps F] in
/-- A conjunction over the two steps. -/
theorem bigSep_steps (Φ : Fin 2 → sProp 𝕄) : bigSep Finset.univ Φ = iprop(Φ 0 ∗ Φ 1) :=
  bigSep_univ_eq_bigSepL [0, 1] (by decide) (by decide) Φ

omit [FloatOps F] in
/-- A conjunction over a device's cells: the barrier's, the send cells' and the receive cells'. -/
theorem bigSep_cells (Φ : CI → sProp 𝕄) : bigSep Finset.univ Φ
    = iprop(Φ none ∗ (bigSep Finset.univ fun sp : Fin 2 × Fin 4 => Φ (some (false, sp))) ∗ bigSep Finset.univ fun sp : Fin 2 × Fin 4 => Φ (some (true, sp))) := by
  rw [bigSep_univ_equiv ((Equiv.sumComm PUnit.{1} _).trans (Equiv.optionEquivSumPUnit.{0} (Bool × Fin 2 × Fin 4)).symm), BI.bigSep_univ_sum, bigSep_univ_prod,
    bigSep_univ_eq_bigSepL [false, true] (by decide) (by decide),
    bigSep_univ_eq_bigSepL [PUnit.unit.{1}] (by decide) (by decide)]
  rfl

omit [FloatOps F] in
/-- What the body starts from, slot by slot. -/
theorem deal (c : Dev nD) :
    iprop(slotsAny (F := F) sM c ∗ (bigSep Finset.univ fun sp : Fin 2 × Fin 4 => sendToks (F := F) c sp.1 sp.2)
        ∗ (bigSep Finset.univ fun sp : Fin 2 × Fin 4 => (cred (tallyAt (recvCell c sp.1 sp.2) () N) : sProp 𝕄))
        ∗ bigSep Finset.univ fun k : CI => at_ (F := F) c k 0)
      ⊢ iprop(at_ (F := F) c none 0 ∗ (bigSep Finset.univ fun sp : Fin 2 × Fin 4 => toGive (F := F) c sp.1 sp.2)
        ∗ bigSep Finset.univ fun sp : Fin 2 × Fin 4 => toTake (F := F) c sp.1 sp.2) := by
  unfold toGive toTake slotsAny
  rw [bigSep_cells, bigSep_sep', bigSep_sep', bigSep_sep']
  iintro ⟨Hs, Ht, Hc, H0, Ha, Hb⟩
  isplitl [H0]; · iexact H0
  isplitl [Hs Ht Ha]
  · isplitl [Hs]; · iexact Hs
    isplitl [Ht]; · iexact Ht
    iexact Ha
  isplitl [Hc]; · iexact Hc
  iexact Hb

omit [FloatOps F] in
/-- What the body ends with, gathered. -/
theorem gather (c : Dev nD) :
    iprop(at_ (F := F) c none 1 ∗ (bigSep Finset.univ fun sp : Fin 2 × Fin 4 => home (F := F) c sp.1 sp.2)
        ∗ bigSep Finset.univ fun sp : Fin 2 × Fin 4 => taken (F := F) c sp.1 sp.2)
      ⊢ iprop(slotsAny (F := F) sM c ∗ slotsAny (F := F) rM c ∗ bigSep Finset.univ fun k : CI => at_ (F := F) c k 1) := by
  unfold home taken slotsAny
  rw [bigSep_cells, bigSep_sep', bigSep_sep']
  iintro ⟨H0, ⟨Hs, Ha⟩, Hr, Hb⟩
  isplitl [Hs]; · iexact Hs
  isplitl [Hr]; · iexact Hr
  isplitl [H0]; · iexact H0
  isplitl [Ha]; · iexact Ha
  iexact Hb

omit [FloatOps F] in
/-- The receive slots, step by step. -/
theorem slots_by_step (c : Dev nD) : slotsAny (F := F) rM c
    ⊢ iprop((bigSep Finset.univ fun p : Fin 4 => slotAny (F := F) rM c 0 p) ∗ bigSep Finset.univ fun p : Fin 4 => slotAny (F := F) rM c 1 p) := by
  unfold slotsAny
  rw [bigSep_univ_prod, bigSep_steps]

omit [FloatOps F] in
/-- A partner's four receive slots of one step, written out. -/
theorem barPay_eq (c : Dev nD) (s : Fin 2) : barPay (F := F) c s
    = iprop(slotAny (F := F) rM (pt s c) s 0 ∗ slotAny (F := F) rM (pt s c) s 1 ∗ slotAny (F := F) rM (pt s c) s 2 ∗ slotAny (F := F) rM (pt s c) s 3) :=
  bigSep_univ_eq_bigSepL [0, 1, 2, 3] (by decide) (by decide) _

/-! ## The body -/

omit [FloatOps F] in
theorem zeros2 : (![0, 0] : Fin 2 → ℕ) = fun _ => 0 := funext fun a => by fin_cases a <;> rfl
omit [FloatOps F] in
theorem zeros3 : (![0, 0, 0] : Fin 3 → ℕ) = fun _ => 0 := funext fun a => by fin_cases a <;> rfl
omit [FloatOps F] in
theorem zeros4 : (![0, 0, 0, 0] : Fin 4 → ℕ) = fun _ => 0 := funext fun a => by fin_cases a <;> rfl

/-- A load of a whole buffer, its rectangle spelt with zero offsets. -/
theorem wp_read (c : Dev nD) {cs : CoreSpace} (n : Fin (sig.nNear .tc cs)) {hn : sig.names .tc cs n = true}
    {o : Fin (sig.tyNear .tc cs n).shape.rank → ℕ} (ho : o = fun _ => 0)
    {i : ∀ a, o a + (sig.tyNear .tc cs n).shape.size a ≤ (sig.tyNear .tc cs n).shape.size a}
    {l : (Memref.whole ⟨cs, n, hn⟩ : Memref sig .tc _ _ _).view.LoadsAt (Rect.unit o (sig.tyNear .tc cs n).shape.size i).toLoadRect}
    {α : Type} {Q : α → sProp (MT nD τ sig Unit (Elt F) ℕ UU ℕ)} {X : Buf (Elt F) ((c : Thread nD τ).loc ⟨cs, n, hn⟩)}
    {k : (sig.tyNear .tc cs n).Contents (Elt F) → Prog (TpuEff nD τ sig (Elt F) Λ₀ .tc) α} :
    ((((c : Thread nD τ).loc ⟨cs, n, hn⟩) ↦{fullShare} X) : sProp 𝕄)
      ⊢ iprop(((((c : Thread nD τ).loc ⟨cs, n, hn⟩) ↦{fullShare} X) -∗ WP c (k X) Q)
        -∗ WP c (.op (.load (Memref.whole ⟨cs, n, hn⟩) (Rect.unit o (sig.tyNear .tc cs n).shape.size i).toLoadRect l) k) Q) := by
  have e := Memref.readAt_unit_zero (Elt F) (⟨cs, n, hn⟩ : Ref sig .tc) ho i X
  iintro H Hk
  iapply (wp_load 𝒱₀ (c : Thread nD τ) none Set.univ (m := Memref.whole ⟨cs, n, hn⟩) (Finset.subset_univ _)) $$ H; iintro H
  rw [e]
  iapply Hk; iexact H

/-- The two stores of the output: the buffer holds device `c`'s output. -/
theorem wp_output (c : Dev nD) {o₀ o₁ : Fin S2x128x512.rank → ℕ} (h₀ : o₀ = ![0, 0, 0]) (h₁ : o₁ = ![1, 0, 0])
    {i₀ : ∀ a, o₀ a + S1x128x512.size a ≤ S2x128x512.size a} {i₁ : ∀ a, o₁ a + S1x128x512.size a ≤ S2x128x512.size a}
    {f : Buf (Elt F) ((c : Thread nD τ).loc cc0_stg5_0)} {w₀ w₁ : S1x128x512.Idx → Elt F .bf16}
    (e₀ : w₀ = shapeCast S1x128x512 (proj (allHeads fun p => finish (total m c p)) (shapeCast S256x512 (inWo m c) shapeCasts_S256x512_S256x512) 0) shapeCasts_S128x512_S1x128x512)
    (e₁ : w₁ = shapeCast S1x128x512 (proj (allHeads fun p => finish (total m c p)) (shapeCast S256x512 (inWo m c) shapeCasts_S256x512_S256x512) 1) shapeCasts_S128x512_S1x128x512)
    {t₀ x₀ l₁ t₁ x₁} {α : Type} {Q : α → sProp (MT nD τ sig Unit (Elt F) ℕ UU ℕ)} {k : PUnit → Prog (TpuEff nD τ sig (Elt F) Λ₀ .tc) α} :
    ((((c : Thread nD τ).loc cc0_stg5_0) ↦{fullShare} f) : sProp 𝕄)
      ⊢ iprop(((((c : Thread nD τ).loc cc0_stg5_0) ↦{fullShare} outAt m c) -∗ WP c (k ⟨⟩) Q)
        -∗ WP c (.op (.store (Memref.whole cc0_stg5_0 : Memref sig .tc .vmem S2x128x512 .bf16) (Rect.unit (s := S2x128x512) o₀ S1x128x512.size i₀) w₀ Finset.univ t₀ x₀) fun _ =>
            .op (.load (Memref.whole cc0_stg5_0 : Memref sig .tc .vmem S2x128x512 .bf16) (Rect.unit (s := S2x128x512) o₁ S1x128x512.size i₁).toLoadRect l₁) fun _ =>
            .op (.store (Memref.whole cc0_stg5_0 : Memref sig .tc .vmem S2x128x512 .bf16) (Rect.unit (s := S2x128x512) o₁ S1x128x512.size i₁) w₁ Finset.univ t₁ x₁) k) Q) := by
  have e := write_both m c h₀ h₁ (i₀ := i₀) (i₁ := i₁) f e₀ e₁
  iintro H Hk
  iapply (wp_store 𝒱₀ (c : Thread nD τ) none Set.univ (m := Memref.whole cc0_stg5_0)
    (r := Rect.unit (s := S2x128x512) o₀ S1x128x512.size i₀) (Mk := Finset.univ) (Finset.subset_univ _)) $$ H; iintro H
  iapply (wp_load 𝒱₀ (c : Thread nD τ) none Set.univ (m := Memref.whole cc0_stg5_0) (Finset.subset_univ _)) $$ H; iintro H
  iapply (wp_store 𝒱₀ (c : Thread nD τ) none Set.univ (m := Memref.whole cc0_stg5_0)
    (r := Rect.unit (s := S2x128x512) o₁ S1x128x512.size i₁) (Mk := Finset.univ) (Finset.subset_univ _)) $$ H; iintro H
  rw [e]
  iapply Hk; iexact H

/-- A staging buffer of device `c`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, at the names `K`, the staging buffers read off the windows. -/
def bodyPre (K : Dev nD × CI → ℕ) (c : Dev nD) : sProp 𝕄 :=
  iprop((ghost m K c ∗ cred (tallyAt (barCell c) () 2)
      ∗ (bigSep Finset.univ fun sp : Fin 2 × Fin 4 => cred (tallyAt (recvCell c sp.1 sp.2) () N)) ∗ levAts L lv)
    ∗ (slotsAny (F := F) sM c ∗ slotsAny (F := F) rM c) ∗ debt (F := F) c (O₀ c)
    ∗ (((c : Thread nD τ).loc cc0_stg0_0) ↦{fullShare} (inX m c)) ∗ (((c : Thread nD τ).loc cc0_stg1_0) ↦{fullShare} (inWq m c))
    ∗ (((c : Thread nD τ).loc cc0_stg2_0) ↦{fullShare} (inK m c)) ∗ (((c : Thread nD τ).loc cc0_stg3_0) ↦{fullShare} (inV m c))
    ∗ (((c : Thread nD τ).loc cc0_stg4_0) ↦{fullShare} (inWo m c))
    ∗ ∃ f : Buf (Elt F) (((c : Dev nD) : Thread nD τ).loc cc0_stg5_0), (((c : Thread nD τ).loc cc0_stg5_0) ↦{fullShare} f))

/-- What it ends with. -/
def bodyPost (c : Dev nD) : sProp 𝕄 :=
  iprop(Φ₁ (F := F) c ∗ debt (F := F) c 0
    ∗ (((c : Thread nD τ).loc cc0_stg0_0) ↦{fullShare} (inX m c)) ∗ (((c : Thread nD τ).loc cc0_stg1_0) ↦{fullShare} (inWq m c))
    ∗ (((c : Thread nD τ).loc cc0_stg2_0) ↦{fullShare} (inK m c)) ∗ (((c : Thread nD τ).loc cc0_stg3_0) ↦{fullShare} (inV m c))
    ∗ (((c : Thread nD τ).loc cc0_stg4_0) ↦{fullShare} (inWo m c)) ∗ (((c : Thread nD τ).loc cc0_stg5_0) ↦{fullShare} (outAt m c)))

end Cert.RunProof
-- ==== Proof.Run.lean ====
/- The run of the kernel's body on one device, in program order: the handshake, the loads, the eight sends and eight
   receptions, the output's stores, the eight departures. -/
module

public import proofs.«01_k».proof.Proof.Body

@[expose] public section

set_option backward.proofsInPublic true

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
/-- The body, run from `bodyPre` to `bodyPost`. -/
theorem sound_body (K : Dev nD × CI → ℕ) (c : Dev nD) (Kt : PUnit → sProp (MT nD τ sig Unit (Elt F) ℕ UU ℕ)) :
    iprop(bodyPre m K c ∗ (bodyPost m c -∗ Kt ⟨⟩))
      ⊢ WP c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          sM (Memref.isWhole_whole _) rM (Memref.isWhole_whole _) cc0_scratch2 cc0_scratch3) Kt := by
  rw [cc0_body_eq_skeleton]; unfold cc0_body_skel
  unfold bodyPre ghost payToks
  iintro ⟨⟨⟨⟨#HR, Hat, Hbt, Htok⟩, HcB, HcV, #Hlev⟩, ⟨HsM, HrM⟩, HO, Hx, Hq, Hk, Hv, Hw, ⟨%f₀, Hout⟩⟩, HK⟩
  ihave Hd := (deal (F := F) c) $$ [HsM Htok HcV Hat]
  · isplitl [HsM]; · iexact HsM
    isplitl [Htok]; · iexact Htok
    isplitl [HcV]; · iexact HcV
    iexact Hat
  icases Hd with ⟨HaB, HG, HT⟩
  ihave HG := (Entails.of_eq (bigSep_slots (F := F) fun sp => toGive (F := F) c sp.1 sp.2)) $$ HG
  icases HG with ⟨HG00, HG01, HG02, HG03, HG10, HG11, HG12, HG13⟩
  ihave HT := (Entails.of_eq (bigSep_slots (F := F) fun sp => toTake (F := F) c sp.1 sp.2)) $$ HT
  icases HT with ⟨HT00, HT01, HT02, HT03, HT10, HT11, HT12, HT13⟩
  ihave HrM := (slots_by_step (F := F) c) $$ HrM
  icases HrM with ⟨Hr0, Hr1⟩
  ihave Hbt := (Entails.of_eq (bigSep_steps (F := F) (fun s : Fin 2 => (dutyTok ER (barCell (pt s c)) 0 s : sProp (MT nD τ sig Unit (Elt F) ℕ UU ℕ))))) $$ Hbt
  icases Hbt with ⟨Hb0, Hb1⟩
  rw [k0_part1_eq_skeleton]; unfold k0_part1_skel
  simp only [semSignalWord, semWaitWord, storeSubelements, Prog.lift, Prog.bind_op, Prog.bind_ret, Prog.pure_eq_ret, wp_deviceId]
  unfold O₀
  iapply (wp_announce m K c 0 (dev1_eq c) _ (by decide)) $$ [HO Hb0 Hr0]
  · isplitr; · iexact HR
    isplitl [HO]; · iexact HO
    isplitl [Hb0]; · iexact Hb0
    iexact Hr0
  iintro HO
  iapply (wp_announce m K c 1 (dev2_eq c) _ (by decide)) $$ [HO Hb1 Hr1]
  · isplitr; · iexact HR
    isplitl [HO]; · iexact HO
    isplitl [Hb1]; · iexact Hb1
    iexact Hr1
  iintro HO
  iapply (wp_await m K c order (by decide)) $$ [HcB HO HaB]
  · isplitr; · iexact HR
    isplitr; · iexact Hlev
    isplitl [HcB]; · iexact HcB
    isplitl [HO]; · iexact HO
    iexact HaB
  rw [barPay_eq, barPay_eq]
  iintro ⟨HO, HaB, ⟨HP00, HP01, HP02, HP03⟩, ⟨HP10, HP11, HP12, HP13⟩⟩
  iapply (wp_read c cc0_stg0_0.idx zeros3) $$ Hx; iintro Hx
  iapply (wp_read c cc0_stg1_0.idx zeros2) $$ Hq; iintro Hq
  iapply (wp_read c cc0_stg2_0.idx zeros4) $$ Hk; iintro Hk
  iapply (wp_read c cc0_stg3_0.idx zeros4) $$ Hv; iintro Hv
  rw [k0_part2_eq_skeleton]; unfold k0_part2_skel
  simp only [semSignalWord, semWaitWord, storeSubelements, Prog.lift, Prog.bind_op, Prog.bind_ret, Prog.pure_eq_ret, wp_deviceId]
  rw [k0_part3_eq_skeleton]; unfold k0_part3_skel
  simp only [semSignalWord, semWaitWord, storeSubelements, Prog.lift, Prog.bind_op, Prog.bind_ret, Prog.pure_eq_ret, wp_deviceId]
  rw [k0_part4_eq_skeleton]; unfold k0_part4_skel
  simp only [semSignalWord, semWaitWord, storeSubelements, Prog.lift, Prog.bind_op, Prog.bind_ret, Prog.pure_eq_ret, wp_deviceId]
  rw [k0_part5_eq_skeleton]; unfold k0_part5_skel
  simp only [semSignalWord, semWaitWord, storeSubelements, Prog.lift, Prog.bind_op, Prog.bind_ret, Prog.pure_eq_ret, wp_deviceId]
  iapply (wp_give m K c 0 0 [(0, 1), (0, 2), (0, 3), (1, 0), (1, 1), (1, 2), (1, 3)] (dev3_eq c) rfl rfl rfl rfl rfl rfl rfl rfl) $$ [HG00 HP00 HO]
  · isplitr; · iexact HR
    isplitl [HG00]; · iexact HG00
    isplitl [HP00]; · iexact HP00
    iexact HO
  iintro ⟨HG00, HO⟩
  rw [k0_part6_eq_skeleton]; unfold k0_part6_skel
  simp only [semSignalWord, semWaitWord, storeSubelements, Prog.lift, Prog.bind_op, Prog.bind_ret, Prog.pure_eq_ret, wp_deviceId]
  rw [k0_part7_eq_skeleton]; unfold k0_part7_skel
  simp only [semSignalWord, semWaitWord, storeSubelements, Prog.lift, Prog.bind_op, Prog.bind_ret, Prog.pure_eq_ret, wp_deviceId]
  iapply (wp_give m K c 0 1 [(0, 2), (0, 3), (1, 0), (1, 1), (1, 2), (1, 3)] (dev4_eq c) rfl rfl rfl rfl rfl rfl rfl rfl) $$ [HG01 HP01 HO]
  · isplitr; · iexact HR
    isplitl [HG01]; · iexact HG01
    isplitl [HP01]; · iexact HP01
    iexact HO
  iintro ⟨HG01, HO⟩
  rw [k0_part8_eq_skeleton]; unfold k0_part8_skel
  simp only [semSignalWord, semWaitWord, storeSubelements, Prog.lift, Prog.bind_op, Prog.bind_ret, Prog.pure_eq_ret, wp_deviceId]
  rw [k0_part9_eq_skeleton]; unfold k0_part9_skel
  simp only [semSignalWord, semWaitWord, storeSubelements, Prog.lift, Prog.bind_op, Prog.bind_ret, Prog.pure_eq_ret, wp_deviceId]
  iapply (wp_give m K c 0 2 [(0, 3), (1, 0), (1, 1), (1, 2), (1, 3)] (dev5_eq c) rfl rfl rfl rfl rfl rfl rfl rfl) $$ [HG02 HP02 HO]
  · isplitr; · iexact HR
    isplitl [HG02]; · iexact HG02
    isplitl [HP02]; · iexact HP02
    iexact HO
  iintro ⟨HG02, HO⟩
  rw [k0_part10_eq_skeleton]; unfold k0_part10_skel
  simp only [semSignalWord, semWaitWord, storeSubelements, Prog.lift, Prog.bind_op, Prog.bind_ret, Prog.pure_eq_ret, wp_deviceId]
  rw [k0_part11_eq_skeleton]; unfold k0_part11_skel
  simp only [semSignalWord, semWaitWord, storeSubelements, Prog.lift, Prog.bind_op, Prog.bind_ret, Prog.pure_eq_ret, wp_deviceId]
  iapply (wp_give m K c 0 3 [(1, 0), (1, 1), (1, 2), (1, 3)] (dev6_eq c) rfl rfl rfl rfl rfl rfl rfl rfl) $$ [HG03 HP03 HO]
  · isplitr; · iexact HR
    isplitl [HG03]; · iexact HG03
    isplitl [HP03]; · iexact HP03
    iexact HO
  iintro ⟨HG03, HO⟩
  iapply (wp_take m K c 0 0 [(1, 0), (1, 1), (1, 2), (1, 3)] (src := slot sM 0 0) (dst := slot rM 0 0) (by decide) rfl rfl rfl rfl rfl) $$ [HT00 HO]
  · isplitr; · iexact HR
    isplitr; · iexact Hlev
    isplitl [HT00]; · iexact HT00
    iexact HO
  iintro ⟨HT00, HO⟩
  rw [k0_part12_eq_skeleton]; unfold k0_part12_skel
  simp only [semSignalWord, semWaitWord, storeSubelements, Prog.lift, Prog.bind_op, Prog.bind_ret, Prog.pure_eq_ret, wp_deviceId]
  rw [k0_part13_eq_skeleton]; unfold k0_part13_skel
  simp only [semSignalWord, semWaitWord, storeSubelements, Prog.lift, Prog.bind_op, Prog.bind_ret, Prog.pure_eq_ret, wp_deviceId]
  iapply (wp_give m K c 1 0 [(1, 1), (1, 2), (1, 3)] (dev7_eq c) rfl rfl rfl rfl rfl rfl rfl rfl) $$ [HG10 HP10 HO]
  · isplitr; · iexact HR
    isplitl [HG10]; · iexact HG10
    isplitl [HP10]; · iexact HP10
    iexact HO
  iintro ⟨HG10, HO⟩
  iapply (wp_take m K c 0 1 [(1, 1), (1, 2), (1, 3)] (src := slot sM 0 1) (dst := slot rM 0 1) (by decide) rfl rfl rfl rfl rfl) $$ [HT01 HO]
  · isplitr; · iexact HR
    isplitr; · iexact Hlev
    isplitl [HT01]; · iexact HT01
    iexact HO
  iintro ⟨HT01, HO⟩
  rw [k0_part14_eq_skeleton]; unfold k0_part14_skel
  simp only [semSignalWord, semWaitWord, storeSubelements, Prog.lift, Prog.bind_op, Prog.bind_ret, Prog.pure_eq_ret, wp_deviceId]
  rw [k0_part15_eq_skeleton]; unfold k0_part15_skel
  simp only [semSignalWord, semWaitWord, storeSubelements, Prog.lift, Prog.bind_op, Prog.bind_ret, Prog.pure_eq_ret, wp_deviceId]
  iapply (wp_give m K c 1 1 [(1, 2), (1, 3)] (dev8_eq c) rfl rfl rfl rfl rfl rfl rfl rfl) $$ [HG11 HP11 HO]
  · isplitr; · iexact HR
    isplitl [HG11]; · iexact HG11
    isplitl [HP11]; · iexact HP11
    iexact HO
  iintro ⟨HG11, HO⟩
  iapply (wp_take m K c 0 2 [(1, 2), (1, 3)] (src := slot sM 0 2) (dst := slot rM 0 2) (by decide) rfl rfl rfl rfl rfl) $$ [HT02 HO]
  · isplitr; · iexact HR
    isplitr; · iexact Hlev
    isplitl [HT02]; · iexact HT02
    iexact HO
  iintro ⟨HT02, HO⟩
  rw [k0_part16_eq_skeleton]; unfold k0_part16_skel
  simp only [semSignalWord, semWaitWord, storeSubelements, Prog.lift, Prog.bind_op, Prog.bind_ret, Prog.pure_eq_ret, wp_deviceId]
  rw [k0_part17_eq_skeleton]; unfold k0_part17_skel
  simp only [semSignalWord, semWaitWord, storeSubelements, Prog.lift, Prog.bind_op, Prog.bind_ret, Prog.pure_eq_ret, wp_deviceId]
  iapply (wp_give m K c 1 2 [(1, 3)] (dev9_eq c) rfl rfl rfl rfl rfl rfl rfl rfl) $$ [HG12 HP12 HO]
  · isplitr; · iexact HR
    isplitl [HG12]; · iexact HG12
    isplitl [HP12]; · iexact HP12
    iexact HO
  iintro ⟨HG12, HO⟩
  iapply (wp_take m K c 0 3 [(1, 3)] (src := slot sM 0 3) (dst := slot rM 0 3) (by decide) rfl rfl rfl rfl rfl) $$ [HT03 HO]
  · isplitr; · iexact HR
    isplitr; · iexact Hlev
    isplitl [HT03]; · iexact HT03
    iexact HO
  iintro ⟨HT03, HO⟩
  rw [k0_part18_eq_skeleton]; unfold k0_part18_skel
  simp only [semSignalWord, semWaitWord, storeSubelements, Prog.lift, Prog.bind_op, Prog.bind_ret, Prog.pure_eq_ret, wp_deviceId]
  rw [k0_part19_eq_skeleton]; unfold k0_part19_skel
  simp only [semSignalWord, semWaitWord, storeSubelements, Prog.lift, Prog.bind_op, Prog.bind_ret, Prog.pure_eq_ret, wp_deviceId]
  iapply (wp_give m K c 1 3 [] (dev10_eq c) rfl rfl rfl rfl rfl rfl rfl rfl) $$ [HG13 HP13 HO]
  · isplitr; · iexact HR
    isplitl [HG13]; · iexact HG13
    isplitl [HP13]; · iexact HP13
    iexact HO
  iintro ⟨HG13, HO⟩
  iapply (wp_take m K c 1 0 [] (src := slot sM 1 0) (dst := slot rM 1 0) (by decide) rfl rfl rfl rfl rfl) $$ [HT10 HO]
  · isplitr; · iexact HR
    isplitr; · iexact Hlev
    isplitl [HT10]; · iexact HT10
    iexact HO
  iintro ⟨HT10, HO⟩
  rw [k0_part20_eq_skeleton]; unfold k0_part20_skel
  simp only [semSignalWord, semWaitWord, storeSubelements, Prog.lift, Prog.bind_op, Prog.bind_ret, Prog.pure_eq_ret, wp_deviceId]
  iapply (wp_take m K c 1 1 [] (src := slot sM 1 1) (dst := slot rM 1 1) (by decide) rfl rfl rfl rfl rfl) $$ [HT11 HO]
  · isplitr; · iexact HR
    isplitr; · iexact Hlev
    isplitl [HT11]; · iexact HT11
    iexact HO
  iintro ⟨HT11, HO⟩
  rw [k0_part21_eq_skeleton]; unfold k0_part21_skel
  simp only [semSignalWord, semWaitWord, storeSubelements, Prog.lift, Prog.bind_op, Prog.bind_ret, Prog.pure_eq_ret, wp_deviceId]
  rw [k0_part22_eq_skeleton]; unfold k0_part22_skel
  simp only [semSignalWord, semWaitWord, storeSubelements, Prog.lift, Prog.bind_op, Prog.bind_ret, Prog.pure_eq_ret, wp_deviceId]
  iapply (wp_take m K c 1 2 [] (src := slot sM 1 2) (dst := slot rM 1 2) (by decide) rfl rfl rfl rfl rfl) $$ [HT12 HO]
  · isplitr; · iexact HR
    isplitr; · iexact Hlev
    isplitl [HT12]; · iexact HT12
    iexact HO
  iintro ⟨HT12, HO⟩
  rw [k0_part23_eq_skeleton]; unfold k0_part23_skel
  simp only [semSignalWord, semWaitWord, storeSubelements, Prog.lift, Prog.bind_op, Prog.bind_ret, Prog.pure_eq_ret, wp_deviceId]
  iapply (wp_take m K c 1 3 [] (src := slot sM 1 3) (dst := slot rM 1 3) (by decide) rfl rfl rfl rfl rfl) $$ [HT13 HO]
  · isplitr; · iexact HR
    isplitr; · iexact Hlev
    isplitl [HT13]; · iexact HT13
    iexact HO
  iintro ⟨HT13, HO⟩
  iapply (wp_read c cc0_stg4_0.idx zeros2) $$ Hw; iintro Hw
  iapply (wp_load 𝒱₀ (c : Thread nD τ) none Set.univ (m := Memref.whole cc0_stg5_0) (Finset.subset_univ _)) $$ Hout; iintro Hout
  rw [k0_part24_eq_skeleton]; unfold k0_part24_skel
  simp only [semSignalWord, semWaitWord, storeSubelements, Prog.lift, Prog.bind_op, Prog.bind_ret, Prog.pure_eq_ret, wp_deviceId]
  iapply (wp_output m c rfl rfl rfl rfl) $$ Hout; iintro Hout
  iapply (wp_reclaim m K c 0 0 (src := slot rM 0 0) (dst := slot sM 0 0) rfl rfl) $$ [HG00 HO]
  · isplitr; · iexact HR
    isplitr; · iexact Hlev
    isplitl [HG00]; · iexact HG00
    iexact HO
  iintro ⟨HG00, HO⟩
  rw [k0_part25_eq_skeleton]; unfold k0_part25_skel
  simp only [semSignalWord, semWaitWord, storeSubelements, Prog.lift, Prog.bind_op, Prog.bind_ret, Prog.pure_eq_ret, wp_deviceId]
  iapply (wp_reclaim m K c 0 1 (src := slot rM 0 1) (dst := slot sM 0 1) rfl rfl) $$ [HG01 HO]
  · isplitr; · iexact HR
    isplitr; · iexact Hlev
    isplitl [HG01]; · iexact HG01
    iexact HO
  iintro ⟨HG01, HO⟩
  iapply (wp_reclaim m K c 0 2 (src := slot rM 0 2) (dst := slot sM 0 2) rfl rfl) $$ [HG02 HO]
  · isplitr; · iexact HR
    isplitr; · iexact Hlev
    isplitl [HG02]; · iexact HG02
    iexact HO
  iintro ⟨HG02, HO⟩
  rw [k0_part26_eq_skeleton]; unfold k0_part26_skel
  simp only [semSignalWord, semWaitWord, storeSubelements, Prog.lift, Prog.bind_op, Prog.bind_ret, Prog.pure_eq_ret, wp_deviceId]
  iapply (wp_reclaim m K c 0 3 (src := slot rM 0 3) (dst := slot sM 0 3) rfl rfl) $$ [HG03 HO]
  · isplitr; · iexact HR
    isplitr; · iexact Hlev
    isplitl [HG03]; · iexact HG03
    iexact HO
  iintro ⟨HG03, HO⟩
  iapply (wp_reclaim m K c 1 0 (src := slot rM 1 0) (dst := slot sM 1 0) rfl rfl) $$ [HG10 HO]
  · isplitr; · iexact HR
    isplitr; · iexact Hlev
    isplitl [HG10]; · iexact HG10
    iexact HO
  iintro ⟨HG10, HO⟩
  iapply (wp_reclaim m K c 1 1 (src := slot rM 1 1) (dst := slot sM 1 1) rfl rfl) $$ [HG11 HO]
  · isplitr; · iexact HR
    isplitr; · iexact Hlev
    isplitl [HG11]; · iexact HG11
    iexact HO
  iintro ⟨HG11, HO⟩
  iapply (wp_reclaim m K c 1 2 (src := slot rM 1 2) (dst := slot sM 1 2) rfl rfl) $$ [HG12 HO]
  · isplitr; · iexact HR
    isplitr; · iexact Hlev
    isplitl [HG12]; · iexact HG12
    iexact HO
  iintro ⟨HG12, HO⟩
  iapply (wp_reclaim m K c 1 3 (src := slot rM 1 3) (dst := slot sM 1 3) rfl rfl) $$ [HG13 HO]
  · isplitr; · iexact HR
    isplitr; · iexact Hlev
    isplitl [HG13]; · iexact HG13
    iexact HO
  iintro ⟨HG13, HO⟩
  unfold WP
  rw [wp_ret]
  ihave Hg := (gather (F := F) c) $$ [HaB HG00 HT00 HG01 HT01 HG02 HT02 HG03 HT03 HG10 HT10 HG11 HT11 HG12 HT12 HG13 HT13]
  · isplitl [HaB]; · iexact HaB
    isplitl [HG00 HG01 HG02 HG03 HG10 HG11 HG12 HG13]
    · rw [bigSep_slots (F := F) fun sp => home (F := F) c sp.1 sp.2]
      isplitl [HG00]; · iexact HG00
      isplitl [HG01]; · iexact HG01
      isplitl [HG02]; · iexact HG02
      isplitl [HG03]; · iexact HG03
      isplitl [HG10]; · iexact HG10
      isplitl [HG11]; · iexact HG11
      isplitl [HG12]; · iexact HG12
      iexact HG13
    rw [bigSep_slots (F := F) fun sp => taken (F := F) c sp.1 sp.2]
    isplitl [HT00]; · iexact HT00
    isplitl [HT01]; · iexact HT01
    isplitl [HT02]; · iexact HT02
    isplitl [HT03]; · iexact HT03
    isplitl [HT10]; · iexact HT10
    isplitl [HT11]; · iexact HT11
    isplitl [HT12]; · iexact HT12
    iexact HT13
  icases Hg with ⟨HsM, HrM, Hat⟩
  imod (close_all m K c) $$ [Hat] with Hz
  · isplitr; · iexact HR
    iexact Hat
  imodintro
  iapply HK
  unfold bodyPost Φ₁
  isplitl [HsM HrM Hz]
  · isplitl [HsM]; · iexact HsM
    isplitl [HrM]; · iexact HrM
    iexact Hz
  isplitl [HO]; · iexact HO
  isplitl [Hx]; · iexact Hx
  isplitl [Hq]; · iexact Hq
  isplitl [Hk]; · iexact Hk
  isplitl [Hv]; · iexact Hv
  isplitl [Hw]; · iexact Hw
  iexact Hout

end Cert.RunProof
-- ==== Proof.Launch.lean ====
/- The launch: the body's obligation to the pipeline, the cells' invariants and tokens dealt to the devices, the launch
   credit, and the run of the program from any memory with zero counters. -/
module

public import proofs.«01_k».proof.Proof.Run
public import Idealize.ShloMosaic.Lib.Ring
public import Idealize.ShloMosaic.Lib.Pipeline.FrameBody
public import Idealize.ShloMosaic.Lib.Pipeline.CollectiveSegs
public import Idealize.ShloMosaic.Adequacy
public import Idealize.ShloMosaic.Init

@[expose] public section

set_option backward.proofsInPublic true

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What the pipeline hands the body at the one point. -/
def bodyGiven (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

/-- What it wants back. -/
def bodyWanted (c : Dev nD) : sProp 𝕄 :=
  iprop(Φ₁ (F := F) c ∗ (dats m ρ 0 c).owesAt () t0_0.succ
    ∗ stg c cc0_stg0_0 (inX m c) ∗ stg c cc0_stg1_0 (inWq m c) ∗ stg c cc0_stg2_0 (inK m c)
    ∗ stg c cc0_stg3_0 (inV m c) ∗ stg c cc0_stg4_0 (inWo m c) ∗ stg c cc0_stg5_0 (outAt m c))

theorem given_pre (c : Dev nD) : bodyGiven m ρ c ⊢ iprop(∃ K, bodyPre m K c) := by
  have e0 : ∀ d, (dats m ρ 0 c).before (0 : Fin 6) t0_0 d = inX m c := fun d => by
    unfold Dat.before; rw [if_pos (fetch0_0 t0_0)]; rfl
  have e1 : ∀ d, (dats m ρ 0 c).before (1 : Fin 6) t0_0 d = inWq m c := fun d => by
    unfold Dat.before; rw [if_pos (fetch0_1 t0_0)]; rfl
  have e2 : ∀ d, (dats m ρ 0 c).before (2 : Fin 6) t0_0 d = inK m c := fun d => by
    unfold Dat.before; rw [if_pos (fetch0_2 t0_0)]; rfl
  have e3 : ∀ d, (dats m ρ 0 c).before (3 : Fin 6) t0_0 d = inV m c := fun d => by
    unfold Dat.before; rw [if_pos (fetch0_3 t0_0)]; rfl
  have e4 : ∀ d, (dats m ρ 0 c).before (4 : Fin 6) t0_0 d = inWo m c := fun d => by
    unfold Dat.before; rw [if_pos (fetch0_4 t0_0)]; rfl
  unfold bodyGiven Φ₀ start
  unfold Dat.owesAt Pipeline.owesWithin
  iintro ⟨⟨⟨⟨%K, Hg⟩, HcB, HcV, Hlev⟩, HsM, HrM⟩, ⟨%W, -, HO⟩, ⟨%d0, %g0, %h0, H0⟩, ⟨%d1, %g1, %h1, H1⟩, ⟨%d2, %g2, %h2, H2⟩,
    ⟨%d3, %g3, %h3, H3⟩, ⟨%d4, %g4, %h4, H4⟩, ⟨%d5, %g5, %h5, H5⟩⟩
  iexists K
  unfold bodyPre debt
  isplitl [Hg HcB HcV Hlev]
  · isplitl [Hg]; · iexact Hg
    isplitl [HcB]; · iexact HcB
    isplitl [HcV]; · iexact HcV
    iexact Hlev
  isplitl [HsM HrM]
  · isplitl [HsM]; · iexact HsM
    iexact HrM
  isplitl [HO]; · iexists W; iexact HO
  isplitl [H0]; · rw [← e0 d0, ← h0]; iexact H0
  isplitl [H1]; · rw [← e1 d1, ← h1]; iexact H1
  isplitl [H2]; · rw [← e2 d2, ← h2]; iexact H2
  isplitl [H3]; · rw [← e3 d3, ← h3]; iexact H3
  isplitl [H4]; · rw [← e4 d4, ← h4]; iexact H4
  iexists g5; iexact H5

theorem post_wanted (c : Dev nD) : bodyPost m c ⊢ bodyWanted m ρ c := by
  unfold bodyPost bodyWanted debt Dat.owesAt Pipeline.owesWithin
  iintro ⟨HΦ, ⟨%W, HO⟩, H0, H1, H2, H3, H4, H5⟩
  isplitl [HΦ]; · iexact HΦ
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 16384 in
/-- The body meets its obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_buffer]
  show bodyGiven m ρ c ⊢ WP c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          sM (Memref.isWhole_whole _) rM (Memref.isWhole_whole _) cc0_scratch2 cc0_scratch3) (fun _ => bodyWanted m ρ c)
  refine (given_pre m ρ c).trans ?_
  iintro ⟨%K, H⟩
  iapply (sound_body m K c fun _ => bodyWanted m ρ c)
  isplitl [H]; · iexact H
  iapply (post_wanted m ρ c)

/-! ## The launch -/

set_option maxRecDepth 8000 in
theorem ownSemFacts : Pipeline.OwnSemFacts cfg0.spec osem := by decide +kernel

theorem share_eq (c : Dev nD) (w : Fin cfg0.W) : (dats m ρ 0 c).share w = fullShare := by unfold Dat.share; split <;> rfl

/-- Every cell of the protocol. -/
def allCells : Finset (GSem nD τ sig) := Finset.univ.map ⟨kcell, kcell_inj⟩

/-- A device's own cells' duties: its barrier cell's two, and each send or receive cell's one. -/
abbrev DI : Type := Fin 2 ⊕ (Bool × Fin 2 × Fin 4)

def tokOf : Dev nD × DI → GSem nD τ sig × ℕ × Fin 2
  | (c, .inl s) => (barCell c, 0, s)
  | (c, .inr x) => (kcell (c, some x), 0, 0)

theorem tokOf_inj : Function.Injective tokOf := by
  rintro ⟨c, s | x⟩ ⟨c', s' | x'⟩ h
  · have h1 := kcell_inj (congrArg Prod.fst h)
    have h2 : s = s' := congrArg (fun y : GSem nD τ sig × ℕ × Fin 2 => y.2.2) h
    rw [h2, (Prod.mk.inj h1).1]
  · exact absurd (Prod.mk.inj (kcell_inj (congrArg Prod.fst h))).2 (by simp)
  · exact absurd (Prod.mk.inj (kcell_inj (congrArg Prod.fst h))).2 (by simp)
  · have h1 := Prod.mk.inj (kcell_inj (congrArg Prod.fst h))
    rw [h1.1, Option.some.inj h1.2]

def allToks : Finset (GSem nD τ sig × ℕ × Fin 2) := Finset.univ.map ⟨tokOf, tokOf_inj⟩

/-- The launch element: the pipeline's and the protocol's. -/
def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun s : Fin 2 => dutyTok ER (barCell c) 0 s)
    ∗ bigSep Finset.univ fun sp : Fin 2 × Fin 4 => iprop(dutyTok ER (sendCell c sp.1 sp.2) 0 (0 : Fin 2) ∗ dutyTok ER (recvCell c sp.1 sp.2) 0 (0 : Fin 2)))

/-- What the launch element deals device `c`. -/
def G (c : Dev nD) : sProp 𝕄 :=
  iprop((bigSep Finset.univ fun k : CI => roundState ER (rd m) (kcell (c, k)) 0)
    ∗ (bigSep Finset.univ fun k : CI => iprop(at_ (F := F) c k 0 ∗ reached ER (kcell (c, k)) 0)) ∗ toks (F := F) c)

/-- What the global step makes of it. -/
def G' (c : Dev nD) : sProp 𝕄 := iprop(∃ K, ghost m K c)

omit [FloatOps F] in
/-- A conjunction over a device's own duties, regrouped as its tokens. -/
theorem toks_eq (c : Dev nD) :
    (bigSep Finset.univ fun y : DI => (dutyTok ER (tokOf (c, y)).1 (tokOf (c, y)).2.1 (tokOf (c, y)).2.2 : sProp 𝕄)) = toks (F := F) c := by
  unfold toks
  rw [BI.bigSep_univ_sum, bigSep_univ_prod, bigSep_univ_eq_bigSepL [false, true] (by decide) (by decide), bigSepL_cons_cons, bigSepL_singleton, bigSep_sep']
  rfl

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => toks_eq c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Every cell's counter at zero: the program's own semaphores' and the barrier's. -/
theorem sems0_eq (c : Dev nD) : (bigSep Finset.univ fun k : CI => (semVal (kcell (c, k)) 0 : sProp 𝕄))
    = iprop(unscopedSems0 c ∗ Pipeline.ownSems0 (Ix := Unit) (Name := ℕ) (U := UU) (Lvl := ℕ) (Val := Elt F) (τ := τ) osem c) := by
  have e : (bigSep Finset.univ fun x : Bool × Fin 2 × Fin 4 => (semVal ((c : Thread nD τ), osem x) 0 : sProp 𝕄))
      = iprop((bigSep Finset.univ fun sp : Fin 2 × Fin 4 => semVal (kcell (c, some (false, sp))) 0)
        ∗ bigSep Finset.univ fun sp : Fin 2 × Fin 4 => semVal (kcell (c, some (true, sp))) 0) := by
    rw [bigSep_univ_prod]
    exact bigSep_univ_eq_bigSepL [false, true] (by decide) (by decide) _
  rw [bigSep_cells, unscopedSems0_eq]; unfold Pipeline.ownSems0
  rw [e]

/-- A device's cells' invariants allocated. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd m) κ (kcell (c, k))))
          ∗ (bigSep Finset.univ fun k : CI => iprop(at_ (F := F) c k 0 ∗ reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k : CI => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A conjunction over the devices and some indices is the same with each index's device read as its partner. -/
theorem bigSep_partners {I : Type} [Fintype I] (σ : I → Fin 2) (Ψ : Dev nD → I → sProp 𝕄) :
    (bigSep Finset.univ fun c : Dev nD => bigSep Finset.univ fun i : I => Ψ c i)
      = bigSep Finset.univ fun c : Dev nD => bigSep Finset.univ fun i : I => Ψ (pt (σ i) c) i := by
  rw [← bigSep_univ_prod (fun ci : Dev nD × I => Ψ ci.1 ci.2), ← bigSep_univ_prod (fun ci : Dev nD × I => Ψ (pt (σ ci.2) ci.1) ci.2)]
  exact bigSep_univ_equiv ⟨fun ci => (pt (σ ci.2) ci.1, ci.2), fun ci => (pt (σ ci.2) ci.1, ci.2),
    fun ci => Prod.ext (pt_pt _ _) rfl, fun ci => Prod.ext (pt_pt _ _) rfl⟩ (fun ci : Dev nD × I => Ψ ci.1 ci.2)

omit [FloatOps F] in
/-- The tokens dealt to the devices that pay them. -/
theorem toks_around : (bigSep Finset.univ fun c : Dev nD => (toks (F := F) c)) ⊢ bigSep Finset.univ fun c : Dev nD => payToks (F := F) c := by
  unfold toks payToks sendToks
  simp only [bigSep_sep']
  refine Entails.of_eq ?_
  rw [bigSep_partners (F := F) (fun s : Fin 2 => s) (fun c s => dutyTok ER (barCell c) 0 s),
    bigSep_partners (F := F) (fun sp : Fin 2 × Fin 4 => sp.1) (fun c sp => dutyTok ER (recvCell c sp.1 sp.2) 0 (0 : Fin 2))]

theorem regroup :
    (bigSep Finset.univ fun c : Dev nD => iprop((bigSep Finset.univ fun k : CI => iprop(∃ κ : ℕ, cellInv ER (rd m) κ (kcell (c, k))))
          ∗ (bigSep Finset.univ fun k : CI => iprop(at_ (F := F) c k 0 ∗ reached ER (kcell (c, k)) 0)) ∗ toks (F := F) c) : sProp 𝕄)
      ⊢ bigSep Finset.univ (G' m) := by
  rw [bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (at_ (F := F) c k 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m) κ (kcell ck) : sProp 𝕄))) $$ HI
  icases HK with ⟨%K, #HI⟩
  ihave Htk := (toks_around (F := F)) $$ Htok
  have hc : ∀ c : Dev nD, iprop(records m K ∗ ((bigSep Finset.univ fun k : CI => at_ (F := F) c k 0) ∗ payToks (F := F) c)) ⊢ G' m c := fun c => by
    unfold G' ghost
    iintro ⟨#HR, Hat, Htok⟩
    iexists K
    isplitr; · iexact HR
    isplitl [Hat]; · iexact Hat
    iexact Htok
  have hall : iprop(records m K ∗ bigSep Finset.univ fun c : Dev nD => iprop((bigSep Finset.univ fun k : CI => at_ (F := F) c k 0) ∗ payToks (F := F) c))
      ⊢ bigSep Finset.univ (G' m) :=
    (sep_mono_left (BI.bigSep_of_persistent Finset.univ (records m K))).trans (by rw [← bigSep_sep']; exact bigSep_mono fun c _ => hc c)
  iapply hall
  isplitr
  · unfold records; isplitl; · iexact HI
    iexact HR
  · rw [bigSep_sep']
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What device `d` owes device `c`'s receive cell of a slot while the sends `l` remain. -/
theorem owe_recv (d c : Dev nD) (x : Fin 2 × Fin 4) : ∀ l : List (Fin 2 × Fin 4),
    owe d l (recvCell c x.1 x.2) () = if d = pt x.1 c then l.count x * N else 0
  | [] => by
    unfold owe; split
    · rw [List.count_nil, Nat.zero_mul]; rfl
    · rfl
  | y :: l => by
    unfold owe
    rw [Pi.add_apply, Finsupp.add_apply, owe_recv d c x l, tallyAt_apply, List.count_cons]
    by_cases hxy : y = x
    · subst hxy
      by_cases h : d = pt y.1 c
      · rw [if_pos h, if_pos h, h, pt_pt, if_pos ⟨rfl, rfl⟩]; simp [Nat.add_mul]
      · rw [if_neg h, if_neg h, if_neg fun h' => h ((eq_pt_iff _ _ _).mp (Prod.mk.inj (kcell_inj h'.1)).1)]
    · have hne : ¬ (recvCell c x.1 x.2 = recvCell (pt y.1 d) y.1 y.2 ∧ () = ()) := fun h' => hxy (by
        have := Option.some.inj (Prod.mk.inj (kcell_inj h'.1)).2
        exact (Prod.mk.inj this).2.symm)
      rw [if_neg hne]
      by_cases h : d = pt x.1 c
      · rw [if_pos h, if_pos h]; simp [hxy]
      · rw [if_neg h, if_neg h]

theorem owe_bar (d c : Dev nD) : ∀ l : List (Fin 2 × Fin 4), owe d l (barCell c) () = 0
  | [] => rfl
  | y :: l => by
    unfold owe
    rw [Pi.add_apply, Finsupp.add_apply, owe_bar d c l, tallyAt_apply,
      if_neg fun h' => absurd (Prod.mk.inj (kcell_inj h'.1)).2 (by simp)]

theorem bar_unit (d c : Dev nD) (s : Fin 2) : (tallyAt (barCell (pt s d)) () 1 : CellTallies nD τ sig Unit) (barCell c) () = if d = pt s c then 1 else 0 := by
  rw [tallyAt_apply]
  by_cases h : d = pt s c
  · rw [if_pos h, h, pt_pt, if_pos ⟨rfl, rfl⟩]
  · rw [if_neg h, if_neg fun h' => h ((eq_pt_iff _ _ _).mp (Prod.mk.inj (kcell_inj h'.1)).1)]

theorem owed_bar (d c : Dev nD) : O₀ d (barCell c) () = (if d = pt 1 c then 1 else 0) + (if d = pt 0 c then 1 else 0) := by
  unfold O₀
  rw [Pi.add_apply, Finsupp.add_apply, Pi.add_apply, Finsupp.add_apply, owe_bar, bar_unit, bar_unit, Nat.zero_add]

theorem owed_recv (d c : Dev nD) (x : Fin 2 × Fin 4) : O₀ d (recvCell c x.1 x.2) () = if d = pt x.1 c then N else 0 := by
  have h1 : order.count x = 1 := by revert x; decide
  have hb : ∀ s : Fin 2, (tallyAt (barCell (pt s d)) () 1 : CellTallies nD τ sig Unit) (recvCell c x.1 x.2) () = 0 := fun s => by
    rw [tallyAt_apply, if_neg fun h' => absurd (Prod.mk.inj (kcell_inj h'.1)).2 (by simp)]
  unfold O₀
  rw [Pi.add_apply, Finsupp.add_apply, Pi.add_apply, Finsupp.add_apply, hb, hb, owe_recv, h1, Nat.one_mul, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pt 1 c) fun _ => 1, Finset.sum_ite_eq' Finset.univ (pt 0 c) fun _ => 1, if_pos (Finset.mem_univ _), if_pos (Finset.mem_univ _)]

theorem launch_recv (c : Dev nD) (x : Fin 2 × Fin 4) :
    tallyOn (recvCell c x.1 x.2) (launchCredit (Pipeline.owing O₀) 0 (recvCell c x.1 x.2)) = (tallyAt (recvCell c x.1 x.2) () N : CellTallies nD τ sig Unit) := by
  unfold tallyAt; refine congrArg _ (Finsupp.ext fun u => ?_); cases u
  rw [Pipeline.launchCredit_owing, Finsupp.single_eq_same, Finset.sum_congr rfl fun d _ => owed_recv d c x, Finset.sum_ite_eq' Finset.univ (pt x.1 c) fun _ => N,
    if_pos (Finset.mem_univ _)]

omit [FloatOps F] in
/-- The launch credit covers device `c`'s barrier and receive cells. -/
theorem creds (c : Dev nD) :
    (Pipeline.launchCred O₀ c : sProp 𝕄) ⊢ iprop(cred (tallyAt (barCell c) () 2)
      ∗ bigSep Finset.univ fun sp : Fin 2 × Fin 4 => cred (tallyAt (recvCell c sp.1 sp.2) () N)) := by
  have h : (Pipeline.launchCred O₀ c : sProp 𝕄)
      ⊢ iprop(bigSep Finset.univ fun k : CI => (cred (tallyOn (kcell (c, k)) (launchCredit (Pipeline.owing O₀) 0 (kcell (c, k)))) : sProp 𝕄)) := by
    unfold Pipeline.launchCred
    have e := BI.bigSep_map (s := Finset.univ) (⟨csem, csem_inj⟩ : CI ↪ SemLoc sig)
      (Φ := fun sm => (cred (tallyOn ((c.tc : Thread nD τ), sm) (launchCredit (Pipeline.owing O₀) 0 ((c.tc : Thread nD τ), sm))) : sProp 𝕄))
    exact e ▸ BI.bigSep_subset (Finset.subset_univ _)
  refine h.trans ?_
  rw [bigSep_cells]
  iintro ⟨H1, -, H2⟩
  isplitl [H1]
  · rw [← launch_bar]; iexact H1
  · rw [show (fun sp : Fin 2 × Fin 4 => (cred (tallyAt (recvCell c sp.1 sp.2) () N) : sProp 𝕄))
      = fun sp => cred (tallyOn (recvCell c sp.1 sp.2) (launchCredit (Pipeline.owing O₀) 0 (recvCell c sp.1 sp.2))) from
        funext fun sp => by rw [launch_recv]]
    iexact H2

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
/-- A whole message buffer is its slots. -/
theorem buffer_split (c : Dev nD) (b : Ref sig .tc) (M : MsgRef) (f : Buf (Elt F) (M.view.loc (c : Thread nD τ))) (h : M.view.set = Finset.univ) :
    (M.view.loc (c : Thread nD τ) ↦{fullShare} f : sProp 𝕄) ⊢ slotsAny (F := F) M c := by
  refine BIBase.Entails.trans ?_ (slots_split M c f)
  rw [h]

theorem buffer_join (c : Dev nD) (M : MsgRef) (h : M.view.set = Finset.univ) :
    slotsAny (F := F) M c ⊢ (iprop(∃ f : Buf (Elt F) (M.view.loc (c : Thread nD τ)), M.view.loc (c : Thread nD τ) ↦{fullShare} f) : sProp 𝕄) := by
  refine (slots_join M c).trans ?_
  rw [h]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hf⟩, ⟨%g, Hg⟩⟩
  isplitl [Hs]; · iexact Hs
  isplitl [Hf]
  · iapply (buffer_split c cc0_scratch0 sM f (View.set_whole _)); iexact Hf
  · iapply (buffer_split c cc0_scratch1 rM g (View.set_whole _)); iexact Hg

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hs, Hr, Hz⟩
  ihave Hz := (Entails.of_eq (sems0_eq (F := F) c)) $$ Hz
  icases Hz with ⟨Hu, Ho⟩
  isplitl [Hu]; · iexact Hu
  isplitl [Ho]; · iexact Ho
  isplitl [Hs]
  · iapply (buffer_join (F := F) c sM (View.set_whole _)); iexact Hs
  · iapply (buffer_join (F := F) c rM (View.set_whole _)); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- The contents of the arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters: every weakly fair execution of the
    program terminates, with every array at its final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RunProof
-- ==== Proof.Frames.lean ====
/- What the run leaves in each array: the arguments as they were, the result the output block; and the frame claims. -/
module

public import proofs.«01_k».proof.Defs
public import proofs.«01_k».proof.Proof.Launch
public import proofs.«01_k».proof.Proof.Gen.Kernel
public import proofs.«01_k».proof.Proof.Gen.ReferenceIdeal.Run

@[expose] public section

set_option backward.proofsInPublic true

noncomputable section

namespace Cert.RunProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staged blocks are the whole arrays -/

/-- Device `c`'s staged blocks are its argument arrays. -/
theorem inX_eq (c : Dev nD) : inX m c = m ((c : Thread nD τ).loc main_arg0) :=
  Memref.read_access_unit_zero (Elt F) main_arg0 (funext fun a => by fin_cases a <;> decide) (fun a => by fin_cases a <;> decide) _
theorem inWq_eq (c : Dev nD) : inWq m c = m ((c : Thread nD τ).loc main_arg1) :=
  Memref.read_access_unit_zero (Elt F) main_arg1 (funext fun a => by fin_cases a <;> decide) (fun a => by fin_cases a <;> decide) _
theorem inK_eq (c : Dev nD) : inK m c = m ((c : Thread nD τ).loc main_arg2) :=
  Memref.read_access_unit_zero (Elt F) main_arg2 (funext fun a => by fin_cases a <;> decide) (fun a => by fin_cases a <;> decide) _
theorem inV_eq (c : Dev nD) : inV m c = m ((c : Thread nD τ).loc main_arg3) :=
  Memref.read_access_unit_zero (Elt F) main_arg3 (funext fun a => by fin_cases a <;> decide) (fun a => by fin_cases a <;> decide) _
theorem inWo_eq (c : Dev nD) : inWo m c = m ((c : Thread nD τ).loc main_arg4) :=
  Memref.read_access_unit_zero (Elt F) main_arg4 (funext fun a => by fin_cases a <;> decide) (fun a => by fin_cases a <;> decide) _

/-! ## The arrays after the run -/

/-- The result array ends holding the output block. -/
theorem finalA_out (c : Dev nD) : finalA m ρ c (5 : Fin 6) = outAt m c := by
  have hr := fun f => Memref.read_access_unit_zero (Elt F) main_v1 (off := fun a => (win0_5.index (0 : Fin 1)) a * main_v1.ty.shape.size a)
    (funext fun a => by fin_cases a <;> decide) (fun a => by fin_cases a <;> decide) f
  have ho : (win0_5.blk (0 : Fin 1)).view.read (Elt F) (finalA m ρ c (5 : Fin 6)) = outAt m c := by
    unfold finalA
    rw [show cfg0.N = ((0 : Fin 1) : Fin cfg0.N).val + 1 from rfl, (dats m ρ 0 c).arrAt_succ (5 : Fin 6) (0 : Fin 1),
      show (cfg0.win (5 : Fin 6)).flush (0 : Fin 1) = true from by decide, if_pos rfl]
    exact View.read_write_univ _ _
  exact (hr _).symm.trans ho

/-- After the run each device's result array holds its output block, its arguments are what they were, and every counter
    is zero. -/
theorem run_values : θ_run defs (onTc (τ := τ) (main (F := F))) (s₀ m ρ) (fun r => (∀ c : Dev nD,
    r.2.mem ((c.tc : Thread nD τ).loc main_v1) = outAt m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0) := by
  have hin : ∀ (c : Dev nD) (w : Fin cfg0.W), (cfg0.win w).isOut = false → finalA m ρ c w = m ((cfg0.win w).arr.view.loc (c : Thread nD τ)) :=
    fun c w hw => (dats (F := F) m ρ 0 c).arrAt_in w hw _
  exact (θ_run defs _ _).mono (fun _ h => ⟨fun c => ⟨(h.1 c (5 : Fin 6)).trans (finalA_out m ρ c),
    (h.1 c (0 : Fin 6)).trans (hin c (0 : Fin 6) rfl), (h.1 c (1 : Fin 6)).trans (hin c (1 : Fin 6) rfl),
    (h.1 c (2 : Fin 6)).trans (hin c (2 : Fin 6) rfl), (h.1 c (3 : Fin 6)).trans (hin c (3 : Fin 6) rfl),
    (h.1 c (4 : Fin 6)).trans (hin c (4 : Fin 6) rfl)⟩, h.2⟩) (run_main m ρ)

/-! ## The frames -/

/-- The run, its result dropped. -/
theorem run_frame : θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0) :=
  (θ_run defs _ _).mono (fun _ h => ⟨fun c => (h.1 c).2, h.2⟩) (run_values m ρ)

omit m ρ in
/-- The ideal program's frame. -/
theorem frame_ideal : Cert.quiescent_KernelIdeal := fun m ρ _ => run_frame (F := Ideal) m ρ

omit m ρ in
/-- The compiled program has the ideal program's bodies, read on bit patterns; -/
theorem defs₀_kernel : (Cert.Kernel.defs₀ (F := Bits) : Defs nD τ sig (Elt Bits) Λ₀) = defs₀ := by
  refine congrArg (fun f => Defs.onTc (nD := nD) (τ := τ) (sig := sig) (Val := Elt Bits) (Λ := Λ₀) f) (funext fun l => funext fun x => ?_)
  match l, x with
  | ⟨0, _⟩, (t, s) => rfl
  | ⟨n + 1, h⟩, _ => exact absurd h (Nat.not_lt.2 (Nat.le_add_left _ _))

omit m ρ in
/-- so the same definitions; -/
theorem defs_kernel : (Cert.Kernel.defs (F := Bits) : Defs nD τ sig (Elt Bits) (Pipeline.Sig Λ₀ (Fin 1) fun p => (pcfgs (F := Bits) p).Adm)) = defs :=
  congrArg (Pipeline.defs pcfgs) defs₀_kernel

omit m ρ in
/-- and so its frame is the run on bit patterns. -/
theorem frame_kernel : Cert.quiescent_Kernel := fun m ρ _ => by
  have h := run_frame (F := Bits) m ρ
  rw [← defs_kernel] at h
  exact h

omit m ρ in
/-- The reference's: it is host operations only, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RunProof
-- ==== Proof.Softmax.lean ====
/- The mathematics of a softmax computed in parts, over the extended reals: the state of a finite set of keys (the largest
   score, and sums weighted by the exponential of each score less the largest), how the states of two disjoint sets combine,
   and why dividing a weighted sum by the sum of the weights is the sum under the divided weights. -/
module

public import Idealize.ShloMosaic.PureOps.Ideal

@[expose] public section

noncomputable section

namespace Cert.RunProof

open Idealize.ShloMosaic

/-! ## The exponential -/

/-- The exponential is never negative. -/
theorem exp_nonneg' (x : EReal) : 0 ≤ Ideal.exp x := by
  induction x with
  | bot => exact le_refl _
  | top => exact le_top
  | coe r => exact EReal.coe_nonneg.2 (Real.exp_pos r).le

/-- The exponential is finite below `⊤`. -/
theorem exp_ne_top {x : EReal} (h : x ≠ ⊤) : Ideal.exp x ≠ ⊤ := by
  induction x with
  | bot => exact EReal.zero_ne_top
  | top => exact absurd rfl h
  | coe r => exact EReal.coe_ne_top _

/-- An extended real less an infinity of its own sign or more is `⊥`. -/
theorem sub_top' (x : EReal) : x - ⊤ = ⊥ := by
  rw [sub_eq_add_neg, EReal.neg_top, EReal.add_bot]

theorem bot_sub' (x : EReal) : ⊥ - x = ⊥ := by
  rw [sub_eq_add_neg, EReal.bot_add]

/-- The weight of a score against one maximum, rescaled to a greater maximum. -/
theorem exp_mul_exp {s a b : EReal} (hs : s ≤ a) (hab : a ≤ b) :
    Ideal.exp (a - b) * Ideal.exp (s - a) = Ideal.exp (s - b) := by
  induction b with
  | top => rw [sub_top', sub_top']; exact zero_mul _
  | bot =>
    obtain rfl := le_bot_iff.1 hab
    obtain rfl := le_bot_iff.1 hs
    rw [bot_sub']; exact zero_mul _
  | coe b =>
    induction a with
    | top => exact absurd hab (not_le.2 (EReal.coe_lt_top b))
    | bot =>
      obtain rfl := le_bot_iff.1 hs
      rw [bot_sub', bot_sub']; exact zero_mul _
    | coe a =>
      induction s with
      | top => exact absurd hs (not_le.2 (EReal.coe_lt_top a))
      | bot => rw [bot_sub', bot_sub']; exact mul_zero _
      | coe s =>
        rw [← EReal.coe_sub, ← EReal.coe_sub, ← EReal.coe_sub]
        change ((Real.exp (a - b) : ℝ) : EReal) * ((Real.exp (s - a) : ℝ) : EReal) = ((Real.exp (s - b) : ℝ) : EReal)
        rw [← EReal.coe_mul, ← Real.exp_add]
        congr 2
        ring

/-- The exponential of a maximum less a greater one is finite. -/
theorem exp_sub_ne_top {a b : EReal} (hab : a ≤ b) : Ideal.exp (a - b) ≠ ⊤ := by
  refine exp_ne_top fun h => ?_
  induction b with
  | top => rw [sub_top'] at h; exact bot_ne_top h
  | bot => obtain rfl := le_bot_iff.1 hab; rw [bot_sub'] at h; exact bot_ne_top h
  | coe b =>
    induction a with
    | top => exact absurd hab (not_le.2 (EReal.coe_lt_top b))
    | bot => rw [bot_sub'] at h; exact bot_ne_top h
    | coe a => rw [← EReal.coe_sub] at h; exact EReal.coe_ne_top _ h

/-! ## Sums -/

variable {κ : Type*}

/-- A finite sum of reals, as an extended real. -/
theorem sum_coe (T : Finset κ) (f : κ → ℝ) : ∑ k ∈ T, ((f k : ℝ) : EReal) = ((∑ k ∈ T, f k : ℝ) : EReal) := by
  classical
  induction T using Finset.induction_on with
  | empty => simp
  | insert x T hx ih => rw [Finset.sum_insert hx, Finset.sum_insert hx, ih, EReal.coe_add]

/-- A finite factor that is not negative distributes over a finite sum, whatever the terms. -/
theorem mul_sum' (a : EReal) (h0 : 0 ≤ a) (ht : a ≠ ⊤) (T : Finset κ) (f : κ → EReal) :
    a * ∑ k ∈ T, f k = ∑ k ∈ T, a * f k := by
  classical
  induction T using Finset.induction_on with
  | empty => simp
  | insert x T hx ih =>
    rw [Finset.sum_insert hx, Finset.sum_insert hx, EReal.left_distrib_of_nonneg_of_ne_top h0 ht, ih]

/-! ## The state of a set of keys -/

/-- The largest score over a set of keys (`⊥` of none). -/
def top (S : κ → EReal) (T : Finset κ) : EReal := T.sup S

/-- The sum of `f` over a set of keys, each weighted by the exponential of its score less the largest. -/
def acc (S f : κ → EReal) (T : Finset κ) : EReal := ∑ k ∈ T, f k * Ideal.exp (S k - top S T)

/-- The sum of the weights. -/
def den (S : κ → EReal) (T : Finset κ) : EReal := ∑ k ∈ T, Ideal.exp (S k - top S T)

theorem acc_one (S : κ → EReal) (T : Finset κ) : acc S (fun _ => 1) T = den S T :=
  Finset.sum_congr rfl fun _ _ => one_mul _

/-- A weighted sum, rescaled from its set's own maximum to any greater value. -/
theorem exp_mul_acc (S f : κ → EReal) (T : Finset κ) {b : EReal} (h : top S T ≤ b) :
    Ideal.exp (top S T - b) * acc S f T = ∑ k ∈ T, f k * Ideal.exp (S k - b) := by
  unfold acc
  rw [mul_sum' _ (exp_nonneg' _) (exp_sub_ne_top h)]
  refine Finset.sum_congr rfl fun k hk => ?_
  rw [mul_left_comm, exp_mul_exp (a := top S T) (Finset.le_sup (f := S) hk) h]

variable [DecidableEq κ]

/-- The largest score over two sets together. -/
theorem top_union (S : κ → EReal) (T U : Finset κ) : top S (T ∪ U) = max (top S T) (top S U) := Finset.sup_union

/-- The weighted sum over two disjoint sets together, from the states of the two. -/
theorem acc_union (S f : κ → EReal) {T U : Finset κ} (h : Disjoint T U) :
    acc S f (T ∪ U) = Ideal.exp (top S T - max (top S T) (top S U)) * acc S f T
      + Ideal.exp (top S U - max (top S T) (top S U)) * acc S f U := by
  rw [exp_mul_acc S f T (le_max_left _ _), exp_mul_acc S f U (le_max_right _ _), acc, Finset.sum_union h, top_union]

/-- The sum of the weights over two disjoint sets together, from the states of the two. -/
theorem den_union (S : κ → EReal) {T U : Finset κ} (h : Disjoint T U) :
    den S (T ∪ U) = Ideal.exp (top S T - max (top S T) (top S U)) * den S T
      + Ideal.exp (top S U - max (top S T) (top S U)) * den S U := by
  simpa only [acc_one] using acc_union S (fun _ => 1) h

/-! ## Dividing by the sum of the weights -/

/-- Where the scores are finite and there is a key, the sum of the weights is a positive real. -/
theorem den_coe (s : κ → ℝ) {T : Finset κ} (hT : T.Nonempty) :
    ∃ r : ℝ, 0 < r ∧ den (fun k => ((s k : ℝ) : EReal)) T = r := by
  obtain ⟨k₀, -, e⟩ := Finset.exists_mem_eq_sup T hT fun k => ((s k : ℝ) : EReal)
  refine ⟨∑ k ∈ T, Real.exp (s k - s k₀), Finset.sum_pos (fun _ _ => Real.exp_pos _) hT, ?_⟩
  unfold den top
  rw [e]
  rw [← sum_coe]
  refine Finset.sum_congr rfl fun k _ => ?_
  rw [← EReal.coe_sub]
  rfl

/-- Where the scores are finite, the weighted sum over the sum of the weights is the sum under the divided weights:
    the values summed need not be finite. -/
theorem acc_div_den (s : κ → ℝ) (f : κ → EReal) {T : Finset κ} (hT : T.Nonempty) :
    Ideal.div (acc (fun k => ((s k : ℝ) : EReal)) f T) (den (fun k => ((s k : ℝ) : EReal)) T)
      = ∑ k ∈ T, f k * Ideal.div (Ideal.exp ((s k : ℝ) - top (fun k => ((s k : ℝ) : EReal)) T))
          (den (fun k => ((s k : ℝ) : EReal)) T) := by
  obtain ⟨r, hr, e⟩ := den_coe s hT
  have hz : (r : EReal) ≠ 0 := by exact_mod_cast hr.ne'
  rw [e]
  unfold Ideal.div
  simp only [if_neg hz]
  rw [← EReal.coe_inv, mul_comm, acc, mul_sum' _ (EReal.coe_nonneg.2 (inv_nonneg.2 hr.le)) (EReal.coe_ne_top _)]
  exact Finset.sum_congr rfl fun k _ => by rw [mul_comm, mul_assoc]

end Cert.RunProof

end
-- ==== Proof.Attend.lean ====
/- The problem the kernel and the reference both solve, as plain functions over the extended reals: which (query, key)
   pairs attend, the queries, the masked scaled scores, and the projected attention output. -/
module

public import proofs.«01_k».proof.Proof.Softmax

@[expose] public section

noncomputable section

namespace Cert.RunProof

open Idealize.ShloMosaic

/-- Whether a query of block `q` attends to a key of block `k`: blocks are 64 positions. -/
def attends (q k : ℕ) : Bool := q == k || k == 0 || (q + k) % 3 == 0

/-- Column `64 h + d` of the 256: feature `d` of head `h`. -/
def col (h : Fin 4) (d : Fin 64) : Fin 256 := ⟨64 * h.val + d.val, by omega⟩

/-- Row `128 c + j` of the 512: the key at row `j` of device `c`'s block. -/
def row (c : Fin 4) (j : Fin 128) : Fin 512 := ⟨128 * c.val + j.val, by omega⟩

variable (x : Fin 2 → Fin 128 → Fin 512 → EReal) (wq : Fin 512 → Fin 256 → EReal)
  (k v : Fin 2 → Fin 512 → Fin 4 → Fin 64 → EReal) (wo : Fin 256 → Fin 512 → EReal)

/-- Feature `d` of head `h` of query `i` of batch `b`. -/
def query (b : Fin 2) (i : Fin 128) (h : Fin 4) (d : Fin 64) : EReal := ∑ t, x b i t * wq t (col h d)

/-- The score of query `i` against key `j`: scaled where the pair attends, the mask's value elsewhere. -/
def sc (b : Fin 2) (h : Fin 4) (i : Fin 128) (j : Fin 512) : EReal :=
  if attends (i.val / 64) (j.val / 64) then (∑ d, query x wq b i h d * k b j h d) * Ideal.ofBits .f32 0x3E000000#32
  else Ideal.ofBits .f32 0xCE6E6B28#32

/-- The attention output: the value rows weighted by the softmax of the scores over all keys. -/
def att (b : Fin 2) (h : Fin 4) (i : Fin 128) (d : Fin 64) : EReal :=
  ∑ j, v b j h d * Ideal.div (Ideal.exp (sc x wq k b h i j - top (sc x wq k b h i) Finset.univ))
    (den (sc x wq k b h i) Finset.univ)

/-- The result: the attention outputs of all heads, projected. -/
def result (b : Fin 2) (i : Fin 128) (n : Fin 512) : EReal := ∑ h, ∑ d, att x wq k v b h i d * wo (col h d) n

/-! ## Finite scores -/

/-- The scale and the mask's value are reals. -/
theorem scale_coe : ∃ r : ℝ, Ideal.ofBits .f32 0x3E000000#32 = (r : EReal) := by
  change ∃ r : ℝ, Ideal.ieee 8 23 (0x3E000000#32 : BitVec 32) = (r : EReal)
  unfold Ideal.ieee
  rw [if_neg (by decide), if_neg (by decide)]
  exact ⟨_, rfl⟩

theorem maskVal_coe : ∃ r : ℝ, Ideal.ofBits .f32 0xCE6E6B28#32 = (r : EReal) := by
  change ∃ r : ℝ, Ideal.ieee 8 23 (0xCE6E6B28#32 : BitVec 32) = (r : EReal)
  unfold Ideal.ieee
  rw [if_neg (by decide), if_neg (by decide)]
  exact ⟨_, rfl⟩

/-- A sum of products of reals is a real. -/
theorem dot_coe {κ : Type*} (T : Finset κ) (f g : κ → EReal) (hf : ∀ t, ∃ r : ℝ, f t = r) (hg : ∀ t, ∃ r : ℝ, g t = r) :
    ∃ r : ℝ, ∑ t ∈ T, f t * g t = r := by
  choose f' hf using hf
  choose g' hg using hg
  refine ⟨∑ t ∈ T, f' t * g' t, ?_⟩
  rw [← sum_coe]
  exact Finset.sum_congr rfl fun t _ => by rw [hf, hg, EReal.coe_mul]

/-- Where the inputs, the query weights and the keys are finite, so is every score. -/
theorem sc_coe (hx : ∀ b i t, ∃ r : ℝ, x b i t = r) (hw : ∀ t n, ∃ r : ℝ, wq t n = r) (hk : ∀ b j h d, ∃ r : ℝ, k b j h d = r)
    (b : Fin 2) (h : Fin 4) (i : Fin 128) (j : Fin 512) : ∃ r : ℝ, sc x wq k b h i j = r := by
  unfold sc
  split
  · obtain ⟨r, e⟩ := dot_coe Finset.univ (fun d => query x wq b i h d) (fun d => k b j h d)
      (fun d => dot_coe Finset.univ (fun t => x b i t) (fun t => wq t (col h d)) (hx b i) (fun t => hw t _)) (fun d => hk b j h d)
    obtain ⟨r', e'⟩ := scale_coe
    exact ⟨r * r', by rw [e, e', EReal.coe_mul]⟩
  · exact maskVal_coe

/-- Where the scores are finite, the attention output is the weighted sum over the sum of the weights. -/
theorem att_eq (hs : ∀ b h i j, ∃ r : ℝ, sc x wq k b h i j = r) (b : Fin 2) (h : Fin 4) (i : Fin 128) (d : Fin 64) :
    Ideal.div (acc (sc x wq k b h i) (fun j => v b j h d) Finset.univ) (den (sc x wq k b h i) Finset.univ) = att x wq k v b h i d := by
  choose s hs using hs
  have e : sc x wq k b h i = fun j => ((s b h i j : ℝ) : EReal) := funext (hs b h i)
  unfold att
  rw [e]
  exact acc_div_den _ _ Finset.univ_nonempty

/-! ## The keys of a device -/

/-- The rows of device `c`'s block. -/
def keys (c : Fin 4) : Finset (Fin 512) := Finset.univ.filter fun j => j.val / 128 = c.val

theorem row_injective (c : Fin 4) : Function.Injective (row c) := fun a b e =>
  Fin.ext (by have := congrArg Fin.val e; simp only [row] at this; omega)

theorem keys_eq (c : Fin 4) : keys c = Finset.univ.map ⟨row c, row_injective c⟩ := by
  ext j
  simp only [keys, Finset.mem_filter, Finset.mem_univ, true_and, Finset.mem_map, Function.Embedding.coeFn_mk]
  constructor
  · intro e
    exact ⟨⟨j.val % 128, by omega⟩, Fin.ext (by simp only [row]; omega)⟩
  · rintro ⟨a, rfl⟩
    simp only [row]; omega

/-- The state of a device's keys, by the rows of its block. -/
theorem top_keys (S : Fin 512 → EReal) (c : Fin 4) : top S (keys c) = Finset.univ.sup fun j : Fin 128 => S (row c j) := by
  rw [top, keys_eq, Finset.sup_map]; rfl

theorem acc_keys (S f : Fin 512 → EReal) (c : Fin 4) :
    acc S f (keys c) = ∑ j : Fin 128, f (row c j) * Ideal.exp (S (row c j) - top S (keys c)) := by
  rw [acc]; conv_lhs => rw [keys_eq, Finset.sum_map]
  rw [← keys_eq]; rfl

theorem den_keys (S : Fin 512 → EReal) (c : Fin 4) :
    den S (keys c) = ∑ j : Fin 128, Ideal.exp (S (row c j) - top S (keys c)) := by
  rw [← acc_one, acc_keys]
  exact Finset.sum_congr rfl fun _ _ => one_mul _

/-- The pattern the maxima start from is `⊥`. -/
theorem negInf : Ideal.ofBits .f32 0xFF800000#32 = (⊥ : EReal) := by
  change Ideal.ieee 8 23 (0xFF800000#32 : BitVec 32) = ⊥
  unfold Ideal.ieee
  rw [if_pos (by decide), if_pos (by decide), if_pos (by decide)]

/-- A maximum folded from `⊥` is the supremum. -/
theorem fold_max {n : ℕ} (f : Fin n → EReal) : Finset.univ.fold max (Ideal.ofBits .f32 0xFF800000#32) f = Finset.univ.sup f := by
  rw [negInf]; rfl

end Cert.RunProof

end
-- ==== Proof.Reads.lean ====
/- The kernel's values read at an index, over the extended reals: each device's scores are the problem's scores at its own
   rows of the keys, its state is the softmax state of those rows, combining states over disjoint rows gives the state of
   the rows together, and the projection sums over heads and features. -/
module

public import proofs.«01_k».proof.Proof.Values
public import proofs.«01_k».proof.Proof.Attend
public import Idealize.ShloMosaic.Lib.Pointwise

@[expose] public section

set_option backward.proofsInPublic true
set_option maxRecDepth 16384

noncomputable section

namespace Cert.RunProof

open Cert.KernelIdeal Cert.KernelIdeal.Gen
open Idealize.ShloMosaic TcCoe Idealize.SL.Sem

/-! ## The mask -/

/-- The block of a query, as the kernel computes it. -/
theorem query_block (j i : Fin 128) : k0_pay7 (ix2 j i) = BitVec.ofNat 32 (i.val / 64) := by
  pointwise [k0_pay7]
  clear j; revert i; decide

/-- The block of a key, as the kernel computes it from its device's number. -/
theorem key_block (c : Dev nD) (j i : Fin 128) :
    k0_pay6 (Scalar.muli (devWord c) 2#32) (iota .tc S128x128 32 [0] iota_S128x128_d0_w32) 64#32 k0_pay4 k0_pay5 (ix2 j i)
      = BitVec.ofNat 32 ((row c j).val / 64) := by
  have e : (row c j).val / 64 = 2 * c.val + j.val / 64 := by simp only [row]; omega
  have e₁ : Scalar.muli (devWord c) 2#32 = BitVec.ofNat 32 (2 * c.val) := by clear e; revert c; decide
  rw [e, e₁, BitVec.ofNat_add]
  pointwise [k0_pay6, k0_pay4, k0_pay5]
  refine congrArg (BitVec.ofNat 32 (2 * c.val) + ·) ?_
  clear e e₁ i; revert j; decide

/-- The kernel's mask is the problem's. -/
theorem msk_apply (c : Dev nD) (j i : Fin 128) :
    msk c (ix2 j i) = BitVec.ofBool (attends (i.val / 64) ((row c j).val / 64)) := by
  have hq : i.val / 64 < 2 := by omega
  have hk : (row c j).val / 64 < 8 := by omega
  unfold msk
  pointwise [k0_pay8]
  rw [query_block, key_block]
  generalize i.val / 64 = q at *
  generalize (row c j).val / 64 = k at *
  interval_cases q <;> interval_cases k <;> decide

/-! ## Scores -/

/-- Row `128 b + i` of the 256: position `i` of batch `b`. -/
def brow (b : Fin 2) (i : Fin 128) : Fin 256 := ⟨128 * b.val + i.val, by omega⟩

theorem pay1_apply (x : Vec Ideal S2x128x512 .bf16) (wq : Vec Ideal S512x256 .bf16) (b : Fin 2) (i : Fin 128) (h : Fin 4) (d : Fin 64) :
    k0_pay1 x wq (ix2 (brow b i) (col h d)) = query (fun b i t => x (ix3 b i t)) (fun t n => wq (ix2 t n)) b i h d := by
  have e₀ : (⟨(brow b i).val / 128, by omega⟩ : Fin 2) = b := Fin.ext (by simp only [brow]; omega)
  have e₁ : (⟨(brow b i).val % 128, by omega⟩ : Fin 128) = i := Fin.ext (by simp only [brow]; omega)
  pointwise [k0_pay1]
  simp only [e₀, e₁]
  rfl

theorem pay2_apply (k : Vec Ideal S2x128x4x64 .bf16) (b : Fin 2) (j : Fin 128) (h : Fin 4) (d : Fin 64) :
    k0_pay2 k (ix2 (brow b j) (col h d)) = k (ix4 b j h d) := by
  have e₀ : (⟨(brow b j).val / 128, by omega⟩ : Fin 2) = b := Fin.ext (by simp only [brow]; omega)
  have e₁ : (⟨(brow b j).val % 128, by omega⟩ : Fin 128) = j := Fin.ext (by simp only [brow]; omega)
  have e₂ : (⟨(col h d).val / 64, by omega⟩ : Fin 4) = h := Fin.ext (by simp only [col]; omega)
  have e₃ : (⟨(col h d).val % 64, by omega⟩ : Fin 64) = d := Fin.ext (by simp only [col]; omega)
  pointwise [k0_pay2]
  simp only [e₀, e₁, e₂, e₃]

theorem pay3_apply (v : Vec Ideal S2x128x4x64 .bf16) (b : Fin 2) (j : Fin 128) (h : Fin 4) (d : Fin 64) :
    k0_pay3 v (ix2 (brow b j) (col h d)) = v (ix4 b j h d) := pay2_apply v b j h d

variable {x : Vec Ideal S2x128x512 .bf16} {wq : Vec Ideal S512x256 .bf16} {kc vc : Vec Ideal S2x128x4x64 .bf16}
  {k v : Fin 2 → Fin 512 → Fin 4 → Fin 64 → EReal} {c : Dev nD}

/-- The scores of a piece's entry against device `c`'s keys, in the problem's terms. -/
abbrev scv (x : Vec Ideal S2x128x512 .bf16) (wq : Vec Ideal S512x256 .bf16) (k : Fin 2 → Fin 512 → Fin 4 → Fin 64 → EReal)
    (b : Fin 2) (h : Fin 4) (i : Fin 128) : Fin 512 → EReal :=
  sc (fun b i t => x (ix3 b i t)) (fun t n => wq (ix2 t n)) k b h i

theorem score_apply (hk : ∀ b j h d, kc (ix4 b j h d) = k b (row c j) h d) (b : Fin 2) (h : Fin 4) (j i : Fin 128) :
    score (k0_pay1 x wq) (k0_pay2 kc) (msk c) b h (ix2 j i) = scv x wq k b h i (row c j) := by
  have e : ∀ d : Fin 64, k0_pay2 kc (ix2 ⟨128 * b.val + j.val, by omega⟩ ⟨64 * h.val + d.val, by omega⟩)
        * k0_pay1 x wq (ix2 ⟨128 * b.val + i.val, by omega⟩ ⟨64 * h.val + d.val, by omega⟩)
      = query (fun b i t => x (ix3 b i t)) (fun t n => wq (ix2 t n)) b i h d * k b (row c j) h d := fun d =>
    (congrArg₂ (· * ·) ((pay2_apply kc b j h d).trans (hk b j h d)) (pay1_apply x wq b i h d)).trans (mul_comm _ _)
  pointwise [score]
  simp only [e, msk_apply]
  unfold scv sc
  generalize attends (i.val / 64) ((row c j).val / 64) = t
  generalize (∑ d, query (fun b i t => x (ix3 b i t)) (fun t n => wq (ix2 t n)) b i h d * k b (row c j) h d)
    * Ideal.ofBits .f32 0x3E000000#32 = y
  generalize Ideal.ofBits .f32 0xCE6E6B28#32 = z
  cases t <;> rfl

/-! ## States -/

section Block
variable (hk : ∀ b j h d, kc (ix4 b j h d) = k b (row c j) h d) (b : Fin 2) (h : Fin 4) (i : Fin 128)
include hk

/-- The largest score of device `c`'s keys. -/
theorem smax_apply : smax (score (k0_pay1 x wq) (k0_pay2 kc) (msk c) b h) (ix2 0 i) = top (scv x wq k b h i) (keys c) := by
  pointwise [smax]
  simp only [score_apply hk]
  rw [fold_max, top_keys]

/-- The weights of device `c`'s keys. -/
theorem sexp_apply (j : Fin 128) : sexp (score (k0_pay1 x wq) (k0_pay2 kc) (msk c) b h) (ix2 j i)
    = Ideal.exp (scv x wq k b h i (row c j) - top (scv x wq k b h i) (keys c)) := by
  pointwise [sexp]
  rw [smax_apply hk, score_apply hk]

/-- The sum of the weights of device `c`'s keys. -/
theorem ssum_apply : ssum (score (k0_pay1 x wq) (k0_pay2 kc) (msk c) b h) (ix2 0 i) = den (scv x wq k b h i) (keys c) := by
  pointwise [ssum]
  simp only [sexp_apply hk]
  rw [den_keys]

/-- The weighted sum of device `c`'s value rows. -/
theorem sctx_apply (hv : ∀ b j h d, vc (ix4 b j h d) = v b (row c j) h d) (d : Fin 64) :
    sctx (k0_pay3 vc) (score (k0_pay1 x wq) (k0_pay2 kc) (msk c) b h) b h (ix2 d i)
      = acc (scv x wq k b h i) (fun j => v b j h d) (keys c) := by
  have e : ∀ j : Fin 128, k0_pay3 vc (ix2 ⟨128 * b.val + j.val, by omega⟩ ⟨64 * h.val + d.val, by omega⟩) = v b (row c j) h d :=
    fun j => (pay3_apply vc b j h d).trans (hv b j h d)
  pointwise [sctx]
  simp only [sexp_apply hk, e]
  rw [acc_keys]

end Block

/-- A piece's state is the softmax state of a set of keys, for both its heads and every query. -/
structure Holds (s : St Ideal) (x : Vec Ideal S2x128x512 .bf16) (wq : Vec Ideal S512x256 .bf16)
    (k v : Fin 2 → Fin 512 → Fin 4 → Fin 64 → EReal) (p : Fin 4) (T : Finset (Fin 512)) : Prop where
  m : ∀ g i, s.m (ix3 g 0 i) = top (scv x wq k (pB p) (pH p g) i) T
  l : ∀ g i, s.l (ix3 g 0 i) = den (scv x wq k (pB p) (pH p g) i) T
  ctx : ∀ g d i, s.ctx (ix3 g d i) = acc (scv x wq k (pB p) (pH p g) i) (fun j => v (pB p) j (pH p g) d) T

/-- A device's own state is that of its own rows. -/
theorem st0_holds (hk : ∀ b j h d, kc (ix4 b j h d) = k b (row c j) h d) (hv : ∀ b j h d, vc (ix4 b j h d) = v b (row c j) h d)
    (p : Fin 4) : Holds (st0 x wq kc vc c p) x wq k v p (keys c) where
  m g i := by
    fin_cases g
    · pointwise [st0, localSt]; exact smax_apply hk (pB p) (pH p 0) i
    · pointwise [st0, localSt]; exact smax_apply hk (pB p) (pH p 1) i
  l g i := by
    fin_cases g
    · pointwise [st0, localSt]; exact ssum_apply hk (pB p) (pH p 0) i
    · pointwise [st0, localSt]; exact ssum_apply hk (pB p) (pH p 1) i
  ctx g d i := by
    fin_cases g
    · pointwise [st0, localSt]; exact sctx_apply hk (pB p) (pH p 0) i hv d
    · pointwise [st0, localSt]; exact sctx_apply hk (pB p) (pH p 1) i hv d

/-- Combining the states of two disjoint sets of keys, the second as received, gives the state of the two together. -/
theorem combine_holds {s t : St Ideal} {p : Fin 4} {T U : Finset (Fin 512)} (hs : Holds s x wq k v p T) (ht : Holds t x wq k v p U)
    (hd : Disjoint T U) : Holds (combine s (unpack (pack t))) x wq k v p (T ∪ U) where
  m g i := by
    pointwise [combine, unpack, pack]
    rw [hs.m, ht.m, top_union]
  l g i := by
    pointwise [combine, unpack, pack]
    rw [hs.m, ht.m, hs.l, ht.l, den_union _ hd]
  ctx g d i := by
    pointwise [combine, unpack, pack]
    rw [hs.m, ht.m, hs.ctx, ht.ctx, acc_union _ _ hd]

/-- A finished state of all the keys is the attention output, where the scores are finite. -/
theorem finish_apply {s : St Ideal} {p : Fin 4} (hs : Holds s x wq k v p Finset.univ)
    (hr : ∀ b h i j, ∃ r : ℝ, scv x wq k b h i j = r) (g : Fin 2) (d : Fin 64) (i : Fin 128) :
    finish s (ix3 g d i) = att (fun b i t => x (ix3 b i t)) (fun t n => wq (ix2 t n)) k v (pB p) (pH p g) i d := by
  pointwise [finish]
  rw [hs.ctx, hs.l]
  exact att_eq _ _ k v hr _ _ _ _

/-! ## The projection -/

/-- Block `4 b + h` of the attention outputs is entry `h % 2` of piece `2 b + h / 2`. -/
theorem allHeads_apply (a : Fin 4 → FVec Ideal S2x64x128 .bf16) (b : Fin 2) (h : Fin 4) (d : Fin 64) (i : Fin 128) :
    allHeads a (ix3 ⟨4 * b.val + h.val, by omega⟩ d i)
      = a ⟨2 * b.val + h.val / 2, by omega⟩ (ix3 ⟨h.val % 2, by omega⟩ d i) := by
  fin_cases b <;> fin_cases h <;> pointwise [allHeads]

/-- A head's share of the output is its sum over features. -/
theorem headProj_apply (a : Fin 4 → FVec Ideal S2x64x128 .bf16) (wo : Vec Ideal S256x512 .bf16) (b : Fin 2) (h : Fin 4)
    (i : Fin 128) (n : Fin 512) : headProj (allHeads a) wo b h (ix2 i n)
      = ∑ d : Fin 64, a ⟨2 * b.val + h.val / 2, by omega⟩ (ix3 ⟨h.val % 2, by omega⟩ d i) * wo (ix2 (col h d) n) := by
  pointwise [headProj]
  exact Finset.sum_congr rfl fun d _ => congrArg (· * _) (allHeads_apply a b h d i)

/-- The projection is the sum over heads and features. -/
theorem proj_apply (a : Fin 4 → FVec Ideal S2x64x128 .bf16) (wo : Vec Ideal S256x512 .bf16) (b : Fin 2) (i : Fin 128) (n : Fin 512) :
    proj (allHeads a) wo b (ix2 i n)
      = ∑ h : Fin 4, ∑ d : Fin 64, a ⟨2 * b.val + h.val / 2, by omega⟩ (ix3 ⟨h.val % 2, by omega⟩ d i) * wo (ix2 (col h d) n) := by
  pointwise [proj]
  simp only [headProj_apply, Fin.sum_univ_four, zero_add]

end Cert.RunProof

end
-- ==== Proof.Output.lean ====
/- The kernel's output block is the problem's result at the device's rows, on every device the same: the four devices' rows
   are all the keys, each once, whichever device combines them. -/
module

public import proofs.«01_k».proof.Proof.Protocol
public import proofs.«01_k».proof.Proof.Reads
public import Idealize.ShloMosaic.Lib.Pointwise

@[expose] public section

set_option backward.proofsInPublic true
set_option maxRecDepth 16384

noncomputable section

namespace Cert.RunProof

open Cert.KernelIdeal Cert.KernelIdeal.Gen
open Idealize.ShloMosaic TcCoe Idealize.SL.Sem

/-- The rows of two devices are disjoint. -/
theorem keys_disjoint {c c' : Fin 4} (h : c ≠ c') : Disjoint (keys c) (keys c') := by
  rw [Finset.disjoint_left]
  intro j hj hj'
  simp only [keys, Finset.mem_filter, Finset.mem_univ, true_and] at hj hj'
  exact h (Fin.ext (by omega))

/-- A row is among the rows of one of the four devices that a device combines. -/
theorem keys_cover : ∀ c : Dev nD, (keys c ∪ keys (pt 0 c)) ∪ (keys (pt 1 c) ∪ keys (pt 0 (pt 1 c))) = Finset.univ := by
  intro c
  have hc : ∀ a : Fin 4, a = c ∨ a = pt 0 c ∨ a = pt 1 c ∨ a = pt 0 (pt 1 c) := by revert c; decide
  refine Finset.eq_univ_of_forall fun j => ?_
  have hm : ∀ {a b : Fin 4}, a = b → (a : ℕ) = j.val / 128 → j ∈ keys b := fun e h => by
    subst e; simp [keys, h]
  simp only [Finset.mem_union]
  rcases hc ⟨j.val / 128, by omega⟩ with e | e | e | e
  · exact .inl (.inl (hm e rfl))
  · exact .inl (.inr (hm e rfl))
  · exact .inr (.inl (hm e rfl))
  · exact .inr (.inr (hm e rfl))

theorem pt_ne : ∀ c : Dev nD, c ≠ pt 0 c ∧ c ≠ pt 1 c ∧ c ≠ pt 0 (pt 1 c) ∧ pt 0 c ≠ pt 1 c ∧ pt 0 c ≠ pt 0 (pt 1 c) ∧ pt 1 c ≠ pt 0 (pt 1 c) := by
  decide

variable (m : (ℓ : Loc nD τ sig) → Buf (Elt Ideal) ℓ) {k v : Fin 2 → Fin 512 → Fin 4 → Fin 64 → EReal}
  {x : Vec Ideal S2x128x512 .bf16} {wq : Vec Ideal S512x256 .bf16}

section Blocks
variable (hx : ∀ c, inX m c = x) (hq : ∀ c, inWq m c = wq)
  (hk : ∀ c b j h d, inK m c (ix4 b j h d) = k b (row c j) h d) (hv : ∀ c b j h d, inV m c (ix4 b j h d) = v b (row c j) h d)
include hx hq hk hv

/-- A device's own state is that of its rows; -/
theorem own_holds (c : Dev nD) (p : Fin 4) : Holds (own m c p) x wq k v p (keys c) := by
  have h := st0_holds (x := x) (wq := wq) (hk c) (hv c) p
  rw [← hx c, ← hq c] at h ⊢
  exact h

/-- after the first exchange, that of its and its partner's rows; -/
theorem pair_holds (c : Dev nD) (p : Fin 4) : Holds (pair m c p) x wq k v p (keys c ∪ keys (pt 0 c)) :=
  combine_holds (own_holds m hx hq hk hv c p) (own_holds m hx hq hk hv (pt 0 c) p) (keys_disjoint (pt_ne c).1)

/-- after the second, that of all rows. -/
theorem total_holds (c : Dev nD) (p : Fin 4) : Holds (total m c p) x wq k v p Finset.univ := by
  obtain ⟨_, h1, h2, h3, h4, _⟩ := pt_ne c
  rw [← keys_cover c]
  refine combine_holds (pair_holds m hx hq hk hv c p) (pair_holds m hx hq hk hv (pt 1 c) p) ?_
  exact Finset.disjoint_union_left.2 ⟨Finset.disjoint_union_right.2 ⟨keys_disjoint h1, keys_disjoint h2⟩,
    Finset.disjoint_union_right.2 ⟨keys_disjoint h3, keys_disjoint h4⟩⟩

/-- The output block is the problem's result, on every device. -/
theorem outAt_apply (hr : ∀ b h i j, ∃ r : ℝ, scv x wq k b h i j = r) (c : Dev nD) {wo : Vec Ideal S256x512 .bf16} (ho : inWo m c = wo)
    (b : Fin 2) (i : Fin 128) (n : Fin 512) : outAt m c (ix3 b i n)
      = result (fun b i t => x (ix3 b i t)) (fun t n => wq (ix2 t n)) k v (fun t n => wo (ix2 t n)) b i n := by
  have e : outAt m c (ix3 b i n) = proj (allHeads fun p => finish (total m c p)) (shapeCast S256x512 (inWo m c) shapeCasts_S256x512_S256x512) b (ix2 i n) := by
    rw [ix2_eq_valueIdx]; rfl
  have hw : shapeCast S256x512 (inWo m c) shapeCasts_S256x512_S256x512 = wo := by
    rw [ho]; funext j; idx_vars j; pointwise
  rw [e, hw, proj_apply]
  refine Finset.sum_congr rfl fun h _ => Finset.sum_congr rfl fun d _ => congrArg (· * _) ?_
  rw [finish_apply (total_holds m hx hq hk hv c _) hr]
  have hb : pB ⟨2 * b.val + h.val / 2, by omega⟩ = b := Fin.ext (by simp only [pB]; omega)
  have hh : pH ⟨2 * b.val + h.val / 2, by omega⟩ ⟨h.val % 2, by omega⟩ = h := Fin.ext (by simp only [pH]; omega)
  rw [hb, hh]

end Blocks

end Cert.RunProof

end
-- ==== Proof.RefRead.lean ====
/- The reference program's result read at an index, over the extended reals: it is the problem's result. -/
module

public import proofs.«01_k».proof.Proof.Gen.ReferenceIdeal.Run
public import proofs.«01_k».proof.Proof.Attend
public import Idealize.ShloMosaic.Lib.Pointwise
public import Idealize.ShloMosaic.Lib.Routing.OpsOrder

@[expose] public section

set_option backward.proofsInPublic true
set_option maxRecDepth 16384

noncomputable section

namespace Cert.RunProof

open Cert.ReferenceIdeal Cert.ReferenceIdeal.Gen Cert.ReferenceIdeal.Value
open Idealize.ShloMosaic TcCoe Idealize.SL.Sem

/-! ## The reference by its parts -/

/-- The block number of each position: the position divided by 64, rounded down. -/
def blockOf {s : Shape} (hb : S_.BroadcastsInDim s ![]) (w : IVec s 32) : IVec s 32 :=
  select (andi (cmpi .ne (signi w) (broadcastInDim s ![] hb (signi (id (constantI S_ 32 64#32)))))
      (cmpi .ne (Host.remsi w (broadcastInDim s ![] hb (id (constantI S_ 32 64#32)))) (broadcastInDim s ![] hb (constantI S_ 32 0#32))))
    (subi (Host.divsi w (broadcastInDim s ![] hb (id (constantI S_ 32 64#32)))) (broadcastInDim s ![] hb (constantI S_ 32 1#32)))
    (Host.divsi w (broadcastInDim s ![] hb (id (constantI S_ 32 64#32))))

/-- The query's block at each (query, key). -/
def queryBlock : IVec S128x512 32 :=
  broadcastInDim S128x512 ![0, 1] bcast_S128x1_S128x512_0_1 (broadcastInDim S128x1 ![0] bcast_S128_S128x1_0 (blockOf bcast_S_S128 (iotaInDim S128 32 0)))

/-- The key's block along a row. -/
def keyBlock : IVec S1x512 32 := broadcastInDim S1x512 ![1] bcast_S512_S1x512_1 (blockOf bcast_S_S512 (iotaInDim S512 32 0))

/-- The key's block at each (query, key). -/
def keyBlocks : IVec S128x512 32 := broadcastInDim S128x512 ![0, 1] bcast_S1x512_S128x512_0_1 keyBlock

/-- The divisor three, guarded against zero. -/
def three : IVec S_ 32 :=
  select (cmpi .eq (id (constantI S_ 32 3#32)) (constantI S_ 32 0#32)) (constantI S_ 32 1#32) (id (constantI S_ 32 3#32))

/-- The truncated remainder by three of the two blocks' sum, -/
def rem3 : IVec S128x512 32 := Host.remsi (addi queryBlock keyBlocks) (broadcastInDim S128x512 ![] bcast_S_S128x512 three)

/-- and the remainder with the divisor's sign. -/
def mod3 : IVec S128x512 32 :=
  select (andi (cmpi .ne (cmpi .slt rem3 (broadcastInDim S128x512 ![] bcast_S_S128x512 (constantI S_ 32 0#32)))
        (broadcastInDim S128x512 ![] bcast_S_S128x512 (cmpi .slt three (constantI S_ 32 0#32))))
      (cmpi .ne rem3 (broadcastInDim S128x512 ![] bcast_S_S128x512 (constantI S_ 32 0#32))))
    (addi rem3 (broadcastInDim S128x512 ![] bcast_S_S128x512 three)) rem3

/-- Which (query, key) pairs attend. -/
def maskR : IVec S128x512 1 :=
  ori (ori (cmpi .eq queryBlock keyBlocks)
      (broadcastInDim S128x512 ![0, 1] bcast_S1x512_S128x512_0_1
        (cmpi .eq keyBlock (broadcastInDim S1x512 ![] bcast_S_S1x512 (constantI S_ 32 0#32)))))
    (cmpi .eq mod3 (broadcastInDim S128x512 ![] bcast_S_S128x512 (constantI S_ 32 0#32)))

/-- Which queries attend to some key. -/
def keepR : IVec S128 1 := Host.reduce IntOp.ori maskR (constantI S_ 1 0#1) reducesTo_S128x512_S128_d1 h_S_

section Parts
variable {F : FTy → Type} [FloatOps F]

/-- The queries, head by head. -/
def queryR (x : Vec F S2x128x512 .bf16) (wq : Vec F S512x256 .bf16) : FVec F S2x128x4x64 .bf16 :=
  shapeCast _ (truncf .bf16 (Host.dotGeneral dot_S2x128x512_S512x256_S2x128x256_2_0_01_1_n_n none x wq : FVec F S2x128x256 .f32) bitsLt_bf16_f32)
    shapeCasts_S2x128x256_S2x128x4x64

/-- The scores: scaled products where a pair attends, the mask value elsewhere. -/
def scoreR (q : FVec F S2x128x4x64 .bf16) (k : Vec F S2x512x4x64 .bf16) : FVec F S2x4x128x512 .f32 :=
  select (broadcastInDim S2x4x128x512 ![0, 1, 2, 3] bcast_S1x1x128x512_S2x4x128x512_0_1_2_3
      (broadcastInDim S1x1x128x512 ![2, 3] bcast_S128x512_S1x1x128x512_2_3 maskR))
    (mulf (extf .f32 (truncf .bf16 (Host.dotGeneral dot_S2x128x4x64_S2x512x4x64_S2x4x128x512_3_3_1_1_02_02 none q k : FVec F S2x4x128x512 .f32)
        bitsLt_bf16_f32) bitsLt_bf16_f32)
      (broadcastInDim S2x4x128x512 ![] bcast_S_S2x4x128x512 (constant S_ .f32 0x3E000000#32)))
    (broadcastInDim S2x4x128x512 ![] bcast_S_S2x4x128x512 (id (constant S_ .f32 0xCE6E6B28#32)))

/-- The exponentials of the scores less each row's largest. -/
def expR (s : FVec F S2x4x128x512 .f32) : FVec F S2x4x128x512 .f32 :=
  Host.exp (subf s (broadcastInDim S2x4x128x512 ![0, 1, 2, 3] bcast_S2x4x128x1_S2x4x128x512_0_1_2_3
    (broadcastInDim S2x4x128x1 ![0, 1, 2] bcast_S2x4x128_S2x4x128x1_0_1_2
      (Host.reduce FloatOps.maximumf s (constant S_ .f32 0xFF800000#32) reducesTo_S2x4x128x512_S2x4x128_d3 h_S_))))

/-- Each row's sum, guarded where no key attends. -/
def sumR (w : FVec F S2x4x128x512 .f32) : FVec F S2x4x128x1 .f32 :=
  select (broadcastInDim S2x4x128x1 ![0, 1, 2, 3] bcast_S1x1x128x1_S2x4x128x1_0_1_2_3
      (broadcastInDim S1x1x128x1 ![2] bcast_S128_S1x1x128x1_2 keepR))
    (broadcastInDim S2x4x128x1 ![0, 1, 2] bcast_S2x4x128_S2x4x128x1_0_1_2
      (Host.reduceAdd w (constant S_ .f32 0x00000000#32) reducesTo_S2x4x128x512_S2x4x128_d3 h_S_))
    (broadcastInDim S2x4x128x1 ![] bcast_S_S2x4x128x1 (id (constant S_ .f32 0x3F800000#32)))

/-- The weights: the exponentials divided by their row's sum. -/
def weightR (w : FVec F S2x4x128x512 .f32) : FVec F S2x4x128x512 .f32 :=
  select (broadcastInDim S2x4x128x512 ![0, 1, 2, 3] bcast_S1x1x128x1_S2x4x128x512_0_1_2_3
      (broadcastInDim S1x1x128x1 ![2] bcast_S128_S1x1x128x1_2 keepR))
    (Host.divf w (broadcastInDim S2x4x128x512 ![0, 1, 2, 3] bcast_S2x4x128x1_S2x4x128x512_0_1_2_3 (sumR w)))
    (broadcastInDim S2x4x128x512 ![] bcast_S_S2x4x128x512 (id (constant S_ .f32 0x00000000#32)))

/-- The weighted sums of the value rows, heads side by side. -/
def ctxR (v : Vec F S2x512x4x64 .bf16) (w : FVec F S2x4x128x512 .f32) : FVec F S2x128x256 .f32 :=
  shapeCast _ (transpose S2x128x4x64 [0, 3, 1, 2]
    (Host.dotGeneral dot_S2x512x4x64_S2x4x128x512_S2x4x64x128_1_3_3_2_02_01 none v w : FVec F S2x4x64x128 .f32)
    transposes_S2x4x64x128_S2x128x4x64_0_3_1_2) shapeCasts_S2x128x4x64_S2x128x256

/-- The projected, rounded output. -/
def outR (a : FVec F S2x128x256 .f32) (wo : Vec F S256x512 .bf16) : FVec F S2x128x512 .bf16 :=
  truncf .bf16 (Host.dotGeneral dot_S2x128x256_S256x512_S2x128x512_2_0_01_1_n_n none a wo : FVec F S2x128x512 .f32) bitsLt_bf16_f32

/-- The reference's result by its parts. -/
theorem res_eq (m : (ℓ : Loc nD τ sig) → Buf (Elt F) ℓ) (c : Dev nD) : res_main_v48 m c
    = outR (ctxR (m ((c.tc : Thread nD τ).loc main_arg3)) (weightR (expR (scoreR
        (queryR (m ((c.tc : Thread nD τ).loc main_arg0)) (m ((c.tc : Thread nD τ).loc main_arg1))) (m ((c.tc : Thread nD τ).loc main_arg2))))))
      (m ((c.tc : Thread nD τ).loc main_arg4)) := rfl

end Parts

/-! ## The mask -/

/-- The block of a query, as the reference computes it. -/
theorem queryBlock_apply (i : Fin 128) (j : Fin 512) : queryBlock (ix2 i j) = BitVec.ofNat 32 (i.val / 64) := by
  pointwise [queryBlock, blockOf]
  clear j; revert i; decide

/-- The block of a key, as the reference computes it. -/
theorem keyBlock_apply (j : Fin 512) : keyBlock (ix2 0 j) = BitVec.ofNat 32 (j.val / 64) := by
  pointwise [keyBlock, blockOf]
  revert j; decide

/-- The reference's mask is the problem's. -/
theorem maskR_apply (i : Fin 128) (j : Fin 512) : maskR (ix2 i j) = BitVec.ofBool (attends (i.val / 64) (j.val / 64)) := by
  pointwise [maskR, mod3, rem3, three, keyBlocks]
  rw [queryBlock_apply, keyBlock_apply]
  have hi : i.val / 64 < 2 := by omega
  have hj : j.val / 64 < 8 := by omega
  generalize i.val / 64 = a at hi ⊢
  generalize j.val / 64 = b at hj ⊢
  clear i j
  revert b a; decide

/-- Every query attends to some key: key 0, whose block every query attends to. -/
theorem keepR_apply (i : Fin 128) : keepR (ix1 i) = 1#1 := by
  pointwise [keepR]
  rw [Idealize.ShloMosaic.Routing.fold_ori]
  refine ⟨0, Finset.mem_univ _, ?_⟩
  rw [maskR_apply]
  revert i; decide

/-! ## The values -/

/-- A sum over the 256 columns is a sum over heads and features. -/
theorem sum_cols (f : Fin 256 → EReal) : ∑ n, f n = ∑ h : Fin 4, ∑ d : Fin 64, f (col h d) := by
  rw [← Fintype.sum_prod_type' (f := fun h d => f (col h d))]
  refine Fintype.sum_equiv (finProdFinEquiv (m := 4) (n := 64)).symm _ _ fun n => congrArg f (Fin.ext ?_)
  simp only [col, finProdFinEquiv, Equiv.coe_fn_symm_mk, Fin.divNat, Fin.modNat]
  omega

section Values
variable (x : Vec Ideal S2x128x512 .bf16) (wq : Vec Ideal S512x256 .bf16) (k v : Vec Ideal S2x512x4x64 .bf16) (wo : Vec Ideal S256x512 .bf16)
  (b : Fin 2) (h : Fin 4) (i : Fin 128)

/-- The problem's scores at the reference's arrays. -/
abbrev scR (j : Fin 512) : EReal :=
  sc (fun b i t => x (ix3 b i t)) (fun t n => wq (ix2 t n)) (fun b j h d => k (ix4 b j h d)) b h i j

/-- A query entry is a dot product. -/
theorem queryR_apply (d : Fin 64) : queryR x wq (ix4 b i h d) = query (fun b i t => x (ix3 b i t)) (fun t n => wq (ix2 t n)) b i h d := by
  pointwise [queryR]
  have e : (⟨h.val * 64 + d.val, by omega⟩ : Fin 256) = col h d := Fin.ext (by simp only [col]; omega)
  simp only [e, query]

/-- The reference's scores are the problem's. -/
theorem scoreR_apply (j : Fin 512) : scoreR (queryR x wq) k (ix4 b h i j) = scR x wq k b h i j := by
  pointwise [scoreR]
  simp only [queryR_apply, maskR_apply, scR, sc]
  cases attends (i.val / 64) (j.val / 64) <;> rfl

/-- The reference's exponentials are those of the scores less their largest. -/
theorem expR_apply (j : Fin 512) : expR (scoreR (queryR x wq) k) (ix4 b h i j)
    = Ideal.exp (scR x wq k b h i j - top (scR x wq k b h i) Finset.univ) := by
  pointwise [expR]
  simp only [scoreR_apply]
  rw [fold_max]; rfl

/-- The reference's row sums are the sums of the weights. -/
theorem sumR_apply : sumR (expR (scoreR (queryR x wq) k)) (ix4 b h i 0) = den (scR x wq k b h i) Finset.univ := by
  pointwise [sumR]
  rw [keepR_apply]
  simp only [expR_apply]
  rfl

/-- The reference's weights. -/
theorem weightR_apply (j : Fin 512) : weightR (expR (scoreR (queryR x wq) k)) (ix4 b h i j)
    = Ideal.div (Ideal.exp (scR x wq k b h i j - top (scR x wq k b h i) Finset.univ)) (den (scR x wq k b h i) Finset.univ) := by
  pointwise [weightR]
  rw [keepR_apply, sumR_apply, expR_apply]
  rfl

/-- The reference's attention output. -/
theorem ctxR_apply (d : Fin 64) : ctxR v (weightR (expR (scoreR (queryR x wq) k))) (ix3 b i (col h d))
    = att (fun b i t => x (ix3 b i t)) (fun t n => wq (ix2 t n)) (fun b j h d => k (ix4 b j h d)) (fun b j h d => v (ix4 b j h d)) b h i d := by
  pointwise [ctxR]
  have e1 : (⟨(col h d).val / 64, by omega⟩ : Fin 4) = h := Fin.ext (by simp only [col]; omega)
  have e2 : (⟨(col h d).val % 64, by omega⟩ : Fin 64) = d := Fin.ext (by simp only [col]; omega)
  simp only [e1, e2, weightR_apply]
  rfl

/-- The reference's output is the problem's result. -/
theorem outR_apply (n : Fin 512) : outR (ctxR v (weightR (expR (scoreR (queryR x wq) k)))) wo (ix3 b i n)
    = result (fun b i t => x (ix3 b i t)) (fun t n => wq (ix2 t n)) (fun b j h d => k (ix4 b j h d)) (fun b j h d => v (ix4 b j h d))
        (fun t n => wo (ix2 t n)) b i n := by
  pointwise [outR]
  rw [sum_cols]
  simp only [ctxR_apply]
  rfl

end Values

end Cert.RunProof

end
-- ==== Proof.Algebraic.lean ====
/- The value claim: from finite inputs, query weights and keys, the kernel's result on every device is the reference's. -/
module

public import proofs.«01_k».proof.Defs
public import proofs.«01_k».proof.Proof.Frames
public import proofs.«01_k».proof.Proof.Output
public import proofs.«01_k».proof.Proof.RefRead
public import Idealize.ShloMosaic.Lib.Pointwise

@[expose] public section

set_option backward.proofsInPublic true
set_option maxRecDepth 16384

noncomputable section

namespace Cert.RunProof

open Cert.KernelIdeal Cert.KernelIdeal.Gen
open Idealize.ShloMosaic TcCoe Idealize.SL.Sem

/-! ## The precondition -/

/-- The side conditions of the precondition, at a device's blocks; -/
theorem preFacts : Cert.Pre_finite_inputs_KernelIdeal.Facts := ⟨by decide, by decide, by decide⟩
/-- at the reference's arrays. -/
theorem preFactsRef : Cert.Pre_finite_inputs_ReferenceIdeal.Facts := ⟨by decide, by decide, by decide⟩

/-- A number whose absolute value is below infinity is real. -/
theorem real_of_abs_lt {a : EReal} (h : BitVec.ofBool (decide (FloatOps.absf (F := Ideal) (φ := .bf16) a < Ideal.ofBits .bf16 0x7F80#16)) = 1#1) :
    ∃ r : ℝ, a = r := by
  have hi : Ideal.ofBits .bf16 0x7F80#16 = (⊤ : EReal) := by
    change Ideal.ieee 8 7 (0x7F80#16 : BitVec 16) = ⊤
    unfold Ideal.ieee
    rw [if_pos (by decide), if_pos (by decide), if_neg (by decide)]
  rw [hi] at h
  have h' : FloatOps.absf (F := Ideal) (φ := .bf16) a < (⊤ : EReal) := by
    by_contra hn
    rw [decide_eq_false hn] at h
    exact absurd h (by decide)
  induction a using EReal.rec with
  | bot => exact absurd h' (by decide)
  | coe r => exact ⟨r, rfl⟩
  | top => exact absurd h' (by decide)

section Pre
variable [Cert.Pre_finite_inputs_KernelIdeal.Facts] {m : (ℓ : Loc nD τ sig) → Buf (Elt Ideal) ℓ}
  (h : Cert.Pre_KernelIdeal_finite_inputs_KernelIdeal m) (c : Dev nD)
include h

/-- The precondition says the inputs are real; -/
theorem real_x (b : Fin 2) (i : Fin 128) (t : Fin 512) : ∃ r : ℝ, m ((c.tc : Thread nD τ).loc main_arg0) (ix3 b i t) = (r : EReal) := by
  have e := congrFun (h c).1 (ix3 b i t)
  refine real_of_abs_lt (Eq.trans ?_ e)
  pointwise [Cert.Pre_finite_inputs_KernelIdeal.fn]

/-- so are the query weights; -/
theorem real_wq (t : Fin 512) (n : Fin 256) : ∃ r : ℝ, m ((c.tc : Thread nD τ).loc main_arg1) (ix2 t n) = (r : EReal) := by
  have e := congrFun (h c).2.1 (ix2 t n)
  refine real_of_abs_lt (Eq.trans ?_ e)
  pointwise [Cert.Pre_finite_inputs_KernelIdeal.fn]

/-- and the device's keys. -/
theorem real_k (b : Fin 2) (j : Fin 128) (hh : Fin 4) (d : Fin 64) : ∃ r : ℝ, m ((c.tc : Thread nD τ).loc main_arg2) (ix4 b j hh d) = (r : EReal) := by
  have e := congrFun (h c).2.2 (ix4 b j hh d)
  refine real_of_abs_lt (Eq.trans ?_ e)
  pointwise [Cert.Pre_finite_inputs_KernelIdeal.fn]

end Pre

/-! ## A device's blocks of the keys and the values -/

/-- Row `j` of device `c`'s block is row `128 c + j` of the whole. -/
theorem block_row (w : Vec Ideal ⟨4, ![2, 512, 4, 64]⟩ .bf16) (c : Fin 4) (b : Fin 2) (j : Fin 128) (h : Fin 4) (d : Fin 64) :
    Layout.block ⟨4, ![2, 128, 4, 64]⟩ ⟨4, ![2, 512, 4, 64]⟩ 1 4 c w (by decide) (ix4 b j h d) = w (ix4 b (row c j) h d) := by
  rw [Layout.block_apply]
  refine congrArg w (funext fun a => Fin.ext ?_)
  fin_cases a
  · rfl
  · change c.val * 128 + j.val = 128 * c.val + j.val
    omega
  · rfl
  · rfl

/-- Every row is a row of some device's block. -/
theorem row_surjective (j : Fin 512) : ∃ (c : Fin 4) (j' : Fin 128), row c j' = j :=
  ⟨⟨j.val / 128, by omega⟩, ⟨j.val % 128, by omega⟩, Fin.ext (by simp only [row]; omega)⟩

/-! ## The claim -/

/-- Where the precondition holds and the devices hold their parts of the reference's arrays, every device's output block is
    the reference's result. -/
theorem outAt_eq [Cert.Pre_finite_inputs_KernelIdeal.Facts] {m : (ℓ : Loc nD τ sig) → Buf (Elt Ideal) ℓ}
    (hm : Cert.Pre_KernelIdeal_finite_inputs_KernelIdeal m)
    {x : Vec Ideal S2x128x512 .bf16} {wq : Vec Ideal S512x256 .bf16} {k v : Vec Ideal ⟨4, ![2, 512, 4, 64]⟩ .bf16} {wo : Vec Ideal S256x512 .bf16}
    (h0 : ∀ c : Dev nD, m ((c.tc : Thread nD τ).loc main_arg0) = x) (h1 : ∀ c : Dev nD, m ((c.tc : Thread nD τ).loc main_arg1) = wq)
    (h2 : ∀ c : Dev nD, m ((c.tc : Thread nD τ).loc main_arg2) = Layout.block ⟨4, ![2, 128, 4, 64]⟩ ⟨4, ![2, 512, 4, 64]⟩ 1 4 c k)
    (h3 : ∀ c : Dev nD, m ((c.tc : Thread nD τ).loc main_arg3) = Layout.block ⟨4, ![2, 128, 4, 64]⟩ ⟨4, ![2, 512, 4, 64]⟩ 1 4 c v)
    (h4 : ∀ c : Dev nD, m ((c.tc : Thread nD τ).loc main_arg4) = wo) (c : Dev nD) :
    outAt m c = outR (ctxR v (weightR (expR (scoreR (queryR x wq) k)))) wo := by
  have hx : ∀ b i t, ∃ r : ℝ, x (ix3 b i t) = r := fun b i t => by rw [← h0 c]; exact real_x hm c b i t
  have hq : ∀ t n, ∃ r : ℝ, wq (ix2 t n) = r := fun t n => by rw [← h1 c]; exact real_wq hm c t n
  have hk : ∀ b j h d, ∃ r : ℝ, k (ix4 b j h d) = r := fun b j h d => by
    obtain ⟨c', j', rfl⟩ := row_surjective j
    rw [← block_row k c' b j' h d, ← h2 c']
    exact real_k hm c' b j' h d
  funext j
  rw [eq_ix3 j]
  refine Eq.trans (outAt_apply (x := x) (wq := wq) (wo := wo) m (k := fun b j h d => k (ix4 b j h d)) (v := fun b j h d => v (ix4 b j h d))
    (fun c => (inX_eq m c).trans (h0 c)) (fun c => (inWq_eq m c).trans (h1 c))
    (fun c b j h d => (congrFun ((inK_eq m c).trans (h2 c)) _).trans (block_row k c b j h d))
    (fun c b j h d => (congrFun ((inV_eq m c).trans (h3 c)) _).trans (block_row v c b j h d))
    (fun b h i j => sc_coe _ _ _ hx hq hk b h i j) c ((inWo_eq m c).trans (h4 c)) _ _ _) ?_
  exact (outR_apply x wq k v wo _ _ _).symm

/-- The value claim. -/
theorem algebraic [Cert.Pre_finite_inputs_KernelIdeal.Facts] :
    Cert.algebraic_KernelIdeal_ReferenceIdeal_pre_finite_inputs_KernelIdeal := fun m ρ m' ρ' hm ha =>
  ⟨Cert.ReferenceIdeal.Value.res_main_v48 m' 0,
    (θ_run defs _ _).mono (fun _ h c => ⟨(h.1 c).1.trans ((outAt_eq hm (fun c => (ha c).1) (fun c => (ha c).2.1) (fun c => (ha c).2.2.1)
      (fun c => (ha c).2.2.2.1) (fun c => (ha c).2.2.2.2) c).trans (res_eq m' 0).symm), (h.1 c).2⟩) (run_values m ρ),
    (θ_run Cert.ReferenceIdeal.defs _ _).mono (fun _ h => h 0) (Cert.ReferenceIdeal.Value.run (F := Ideal) m' ρ')⟩

end Cert.RunProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := by
  haveI := Cert.RunProof.preFacts
  haveI := Cert.RunProof.preFactsRef
  exact ⟨Cert.Kernel.Gen.facts, Cert.KernelIdeal.Gen.facts, Cert.ReferenceIdeal.Gen.facts, Cert.RunProof.preFacts, Cert.RunProof.preFactsRef,
    Cert.RunProof.frame_kernel, Cert.RunProof.frame_ideal, fun m g _ => Cert.RunProof.frame_ideal m g trivial,
    Cert.RunProof.frame_reference, fun m g _ => Cert.RunProof.frame_reference m g trivial, trivial, Cert.RunProof.algebraic⟩

end Cert.Proof

end
